-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S3x4096x256 : Shape := ⟨3, ![3, 4096, 256]⟩
abbrev S7x512x256 : Shape := ⟨3, ![7, 512, 256]⟩
abbrev S_ : Shape := ⟨0, ![]⟩
abbrev S3 : Shape := ⟨1, ![3]⟩
abbrev S8 : Shape := ⟨1, ![8]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 5
  | .vmem => 8
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S1, .f32⟩
  | .local _ .vmem, ⟨1, _⟩ => ⟨S1, .f32⟩
  | .local _ .vmem, ⟨2, _⟩ => ⟨S4096x256, .f32⟩
  | .local _ .vmem, ⟨3, _⟩ => ⟨S512x4096, .f32⟩
  | .local _ .vmem, ⟨4, _⟩ => ⟨S512x4096, .fp8e4m3⟩
  | .local _ .vmem, ⟨5, _⟩ => ⟨S3x4096x256, .f32⟩
  | .local _ .vmem, ⟨6, _⟩ => ⟨S7x512x256, .bf16⟩
  | .local _ .vmem, ⟨7, _⟩ => ⟨S4096x256, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v9 : BitVec 32 := Scalar.addi v2 c1_i32_1
  let c8_i32_2 : BitVec 32 := 8#32
  let v10 : BitVec 32 := Scalar.remsi v9 c8_i32_2
  let c1_i32_4 : BitVec 32 := 1#32
  let v11 : BitVec 32 := Scalar.muli v10 c1_i32_4
  let v12 : BitVec 32 := Scalar.addi c0_i32 v11
  v12.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.addi v2 c2_i32
  let c8_i32_5 : BitVec 32 := 8#32
  let v14 : BitVec 32 := Scalar.remsi v13 c8_i32_5
  let c1_i32_7 : BitVec 32 := 1#32
  let v15 : BitVec 32 := Scalar.muli v14 c1_i32_7
  let v16 : BitVec 32 := Scalar.addi c0_i32_8 v15
  v16.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 32 := Scalar.addi v2 c3_i32
  let c8_i32_9 : BitVec 32 := 8#32
  let v18 : BitVec 32 := Scalar.remsi v17 c8_i32_9
  let c1_i32_11 : BitVec 32 := 1#32
  let v19 : BitVec 32 := Scalar.muli v18 c1_i32_11
  let v20 : BitVec 32 := Scalar.addi c0_i32_12 v19
  v20.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 32 := Scalar.addi v2 c4_i32
  let c8_i32_13 : BitVec 32 := 8#32
  let v22 : BitVec 32 := Scalar.remsi v21 c8_i32_13
  let c1_i32_15 : BitVec 32 := 1#32
  let v23 : BitVec 32 := Scalar.muli v22 c1_i32_15
  let v24 : BitVec 32 := Scalar.addi c0_i32_16 v23
  v24.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 32 := Scalar.addi v2 c5_i32
  let c8_i32_17 : BitVec 32 := 8#32
  let v26 : BitVec 32 := Scalar.remsi v25 c8_i32_17
  let c1_i32_19 : BitVec 32 := 1#32
  let v27 : BitVec 32 := Scalar.muli v26 c1_i32_19
  let v28 : BitVec 32 := Scalar.addi c0_i32_20 v27
  v28.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v29 : BitVec 32 := Scalar.addi v2 c6_i32
  let c8_i32_21 : BitVec 32 := 8#32
  let v30 : BitVec 32 := Scalar.remsi v29 c8_i32_21
  let c1_i32_23 : BitVec 32 := 1#32
  let v31 : BitVec 32 := Scalar.muli v30 c1_i32_23
  let v32 : BitVec 32 := Scalar.addi c0_i32_24 v31
  v32.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v33 : BitVec 32 := Scalar.addi v2 c7_i32
  let c8_i32_25 : BitVec 32 := 8#32
  let v34 : BitVec 32 := Scalar.remsi v33 c8_i32_25
  let c1_i32_27 : BitVec 32 := 1#32
  let v35 : BitVec 32 := Scalar.muli v34 c1_i32_27
  let v36 : BitVec 32 := Scalar.addi c0_i32_28 v35
  v36.toNat
def k0_off1 (d0 : Dev nD) (c1_i32_29 : BitVec 32) : Fin 2 → Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.addi v2 c1_i32_29
  let c8_i32_30 : BitVec 32 := 8#32
  let v38 : BitVec 32 := Scalar.remsi v37 c8_i32_30
  let c256_i32 : BitVec 32 := 256#32
  let v39 : BitVec 32 := Scalar.muli v38 c256_i32
  ![0, v39.toNat]
def k0_off2 (d0 : Dev nD) (c1_i32_50 : BitVec 32) : Fin 2 → Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v60 : BitVec 32 := Scalar.addi v2 c1_i32_50
  let c2_i32_51 : BitVec 32 := 2#32
  let v61 : BitVec 32 := Scalar.addi v60 c2_i32_51
  let c8_i32_52 : BitVec 32 := 8#32
  let v62 : BitVec 32 := Scalar.remsi v61 c8_i32_52
  let c256_i32_53 : BitVec 32 := 256#32
  let v63 : BitVec 32 := Scalar.muli v62 c256_i32_53
  ![0, v63.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v85 : BitVec 32 := Scalar.muli v2 c512_i32
  let c0_i32_78 : BitVec 32 := 0#32
  ![v85.toNat, 0]
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v58 : BitVec 32 := Scalar.addi v2 c1_i32_48
  let c8_i32_49 : BitVec 32 := 8#32
  let v59 : BitVec 32 := Scalar.remsi v58 c8_i32_49
  let c1_i32_76 : BitVec 32 := 1#32
  let v86 : BitVec 32 := Scalar.muli v59 c1_i32_76
  let v87 : BitVec 32 := Scalar.addi c0_i32_77 v86
  v87.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v95 : BitVec 32 := Scalar.addi v2 c2_i32_81
  let c8_i32_82 : BitVec 32 := 8#32
  let v96 : BitVec 32 := Scalar.remsi v95 c8_i32_82
  let c1_i32_109 : BitVec 32 := 1#32
  let v123 : BitVec 32 := Scalar.muli v96 c1_i32_109
  let v124 : BitVec 32 := Scalar.addi c0_i32_110 v123
  v124.toNat
def k0_dev10 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v132 : BitVec 32 := Scalar.addi v2 c3_i32_114
  let c8_i32_115 : BitVec 32 := 8#32
  let v133 : BitVec 32 := Scalar.remsi v132 c8_i32_115
  let c1_i32_142 : BitVec 32 := 1#32
  let v160 : BitVec 32 := Scalar.muli v133 c1_i32_142
  let v161 : BitVec 32 := Scalar.addi c0_i32_143 v160
  v161.toNat
def k0_dev11 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_147 : BitVec 32 := 4#32
  let v169 : BitVec 32 := Scalar.addi v2 c4_i32_147
  let c8_i32_148 : BitVec 32 := 8#32
  let v170 : BitVec 32 := Scalar.remsi v169 c8_i32_148
  let c1_i32_175 : BitVec 32 := 1#32
  let v197 : BitVec 32 := Scalar.muli v170 c1_i32_175
  let v198 : BitVec 32 := Scalar.addi c0_i32_176 v197
  v198.toNat
def k0_dev12 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v206 : BitVec 32 := Scalar.addi v2 c5_i32_180
  let c8_i32_181 : BitVec 32 := 8#32
  let v207 : BitVec 32 := Scalar.remsi v206 c8_i32_181
  let c1_i32_208 : BitVec 32 := 1#32
  let v234 : BitVec 32 := Scalar.muli v207 c1_i32_208
  let v235 : BitVec 32 := Scalar.addi c0_i32_209 v234
  v235.toNat
def k0_dev13 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_213 : BitVec 32 := 6#32
  let v243 : BitVec 32 := Scalar.addi v2 c6_i32_213
  let c8_i32_214 : BitVec 32 := 8#32
  let v244 : BitVec 32 := Scalar.remsi v243 c8_i32_214
  let c1_i32_241 : BitVec 32 := 1#32
  let v271 : BitVec 32 := Scalar.muli v244 c1_i32_241
  let v272 : BitVec 32 := Scalar.addi c0_i32_242 v271
  v272.toNat
def k0_dev14 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_246 : BitVec 32 := 7#32
  let v280 : BitVec 32 := Scalar.addi v2 c7_i32_246
  let c8_i32_247 : BitVec 32 := 8#32
  let v281 : BitVec 32 := Scalar.remsi v280 c8_i32_247
  let c1_i32_265 : BitVec 32 := 1#32
  let v299 : BitVec 32 := Scalar.muli v281 c1_i32_265
  let v300 : BitVec 32 := Scalar.addi c0_i32_266 v299
  v300.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_281 : BitVec 32 := 512#32
  let v320 : BitVec 32 := Scalar.muli v2 c512_i32_281
  let v321 : Index := Scalar.indexCast v320
  let c0_282 : Index := 0#32
  ![v321.toNat, 0]
def k0_off5 (d0 : Dev nD) (c1_i32_283 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 32 := Scalar.subi v2 c1_i32_283
  let c8_i32_284 : BitVec 32 := 8#32
  let v324 : BitVec 32 := Scalar.addi v323 c8_i32_284
  let c8_i32_285 : BitVec 32 := 8#32
  let v325 : BitVec 32 := Scalar.remsi v324 c8_i32_285
  let c512_i32_286 : BitVec 32 := 512#32
  let v326 : BitVec 32 := Scalar.muli v325 c512_i32_286
  let c0_i32_292 : BitVec 32 := 0#32
  ![v326.toNat, 0]
def k0_off6 (d0 : Dev nD) (c1_i32_283 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 32 := Scalar.subi v2 c1_i32_283
  let c8_i32_284 : BitVec 32 := 8#32
  let v324 : BitVec 32 := Scalar.addi v323 c8_i32_284
  let c8_i32_285 : BitVec 32 := 8#32
  let v325 : BitVec 32 := Scalar.remsi v324 c8_i32_285
  let c512_i32_295 : BitVec 32 := 512#32
  let v334 : BitVec 32 := Scalar.muli v325 c512_i32_295
  let v335 : Index := Scalar.indexCast v334
  let c0_296 : Index := 0#32
  ![v335.toNat, 0]
abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Sched.lean ====
/-
# The protocol of the kernel

Eight devices.  Device `c` multiplies its row block of `x` by the eight column blocks of `w`, keeps its own block and
sends the other seven, the block of device `c + i + 1` in the `i`-th transfer (`i : Fin 7`).

Per semaphore of device `c`:

* the barrier semaphore: device `c` waits for 7; the device `i + 1` before `c` signals 1 (its duty `i`) and hands over
  the rows of ITS receive buffer that `c`'s transfer writes, with the mark that its receive cell is at round 0;
* receive semaphore `i`: device `c` waits for one block; the device `i + 1` before `c` pays it by its transfer `i`, which
  hands over the rows it wrote, at that device's product block for `c`;
* send semaphore `i`: device `c` waits for one block; its own transfer `i` pays it and gives the communication slot back;
* the four load semaphores: local transfers of `c` itself, each waited for before its buffer is read.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the ring's rounds (duties `Fin 7`), the local transfers' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local transfers' counters: the right half of the right factor. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around the ring -/

set_option backward.proofsInPublic true in
/-- The device `i + 1` after `c`. -/
def nx (c : Dev nD) (i : Fin 7) : Dev nD := ⟨(c.val + (i.val + 1)) % 8, Nat.mod_lt _ (by decide)⟩
set_option backward.proofsInPublic true in
/-- The device `i + 1` before `c`. -/
def pv (c : Dev nD) (i : Fin 7) : Dev nD := ⟨((c.val + 7) - i.val) % 8, Nat.mod_lt _ (by decide)⟩

theorem pv_nx (c : Dev nD) (i : Fin 7) : pv (nx c i) i = c := by revert c i; decide
theorem nx_pv (c : Dev nD) (i : Fin 7) : nx (pv c i) i = c := by revert c i; decide
theorem nx_rev (c : Dev nD) (i : Fin 7) : nx c i.rev = pv c i := by revert c i; decide
theorem pv_rev (c : Dev nD) (i : Fin 7) : pv c i.rev = nx c i := by revert c i; decide
theorem rev_rev (i : Fin 7) : i.rev.rev = i := by revert i; decide

/-- The step by `i + 1` devices, as a permutation of the devices. -/
def ring (i : Fin 7) : Dev nD ≃ Dev nD := ⟨fun c => nx c i, fun c => pv c i, fun c => pv_nx c i, fun c => nx_pv c i⟩

/-! ## The memrefs -/

abbrev xA : Memref sig .tc .hbm S512x4096 .f32 := Memref.whole main_arg0
abbrev wA : Memref sig .tc .hbm S4096x2048 .f32 := Memref.whole main_arg1
abbrev sxM : Memref sig .tc .vmem S1 .f32 := Memref.whole cc0_stg0_0
abbrev swM : Memref sig .tc .vmem S1 .f32 := Memref.whole cc0_stg1_0
abbrev oM : Memref sig .tc .vmem S4096x256 .f32 := Memref.whole cc0_stg2_0
abbrev xM : Memref sig .tc .vmem S512x4096 .f32 := Memref.whole cc0_scratch0
abbrev hM : Memref sig .tc .vmem S512x4096 .fp8e4m3 := Memref.whole cc0_scratch1
abbrev wM : Memref sig .tc .vmem S3x4096x256 .f32 := Memref.whole cc0_scratch2
abbrev cM : Memref sig .tc .vmem S7x512x256 .bf16 := Memref.whole cc0_scratch3
abbrev rM : Memref sig .tc .vmem S4096x256 .bf16 := Memref.whole cc0_scratch4

/-- Slot `s` of the weight buffer, as a rectangle, -/
abbrev wRect (s : Fin 3) : Rect S3x4096x256 := Rect.unit (s := S3x4096x256) ![s.val, 0, 0] S1x4096x256.size (by revert s; decide)
/-- and as the matrix a load lands in. -/
abbrev wSlot (s : Fin 3) : Memref sig .tc .vmem S4096x256 .f32 :=
  (wM.slice (wRect s) (fun _ => rfl)).squeeze S4096x256 squeezes_S1x4096x256_S4096x256
/-- Slot `i` of the communication buffer, as a rectangle, -/
abbrev cRect (i : Fin 7) : Rect S7x512x256 := Rect.unit (s := S7x512x256) ![i.val, 0, 0] S1x512x256.size (by revert i; decide)
/-- and as the block a transfer sends. -/
abbrev cSlot (i : Fin 7) : Memref sig .tc .vmem S512x256 .bf16 :=
  (cM.slice (cRect i) (fun _ => rfl)).squeeze S512x256 squeezes_S1x512x256_S512x256
/-- Row block `j` of a `4096 × 256` buffer. -/
abbrev row (j : Dev nD) : Rect S4096x256 := Rect.unit (s := S4096x256) ![512 * j.val, 0] S512x256.size (by revert j; decide)
/-- Row block `j` of the receive buffer. -/
abbrev rBlk (j : Dev nD) : Memref sig .tc .vmem S512x256 .bf16 := rM.slice (row j) (fun _ => rfl)
/-- Row block `j` of the output's staging buffer. -/
abbrev oBlk (j : Dev nD) : Memref sig .tc .vmem S512x256 .f32 := oM.slice (row j) (fun _ => rfl)
/-- Column block `j` of the weights. -/
abbrev col (j : Dev nD) : Rect S4096x2048 := Rect.unit (s := S4096x2048) ![0, 256 * j.val] S4096x256.size (by revert j; decide)
abbrev wBlk (j : Dev nD) : Memref sig .tc .hbm S4096x256 .f32 := wA.slice (col j) (fun _ => rfl)

/-! ## The cells -/

/-- The runtime's barrier semaphore of collective id 0 (unscoped); -/
abbrev barS : Sem sig := (SemArray.scalar (sig.barrier 0 rfl) : Sems sig S_).sem
/-- the send and the receive semaphore of transfer `i`. -/
abbrev sendS (i : Fin 7) : DmaSem sig := ⟨8 + i.val, (by decide : ∀ i : Fin 7, 8 + i.val < sig.nDmaSem) i⟩
abbrev recvS (i : Fin 7) : DmaSem sig := ⟨16 + i.val, (by decide : ∀ i : Fin 7, 16 + i.val < sig.nDmaSem) i⟩

abbrev barCell (c : Dev nD) : GSem nD τ sig := ((c : Thread nD τ), .reg barS)
abbrev sendCell (c : Dev nD) (i : Fin 7) : GSem nD τ sig := ((c : Thread nD τ), .dma (sendS i))
abbrev recvCell (c : Dev nD) (i : Fin 7) : GSem nD τ sig := ((c : Thread nD τ), .dma (recvS i))

/-- What a semaphore is to the ring's protocol. -/
inductive Role where
  | bar
  | send (i : Fin 7)
  | recv (i : Fin 7)
  | none
deriving DecidableEq

def roleOf : SemLoc sig → Role
  | .reg _ => .bar
  | .dma q => if h : 8 ≤ q.val ∧ q.val < 15 then .send ⟨q.val - 8, by omega⟩
      else if h : 16 ≤ q.val ∧ q.val < 23 then .recv ⟨q.val - 16, by omega⟩ else .none

theorem role_bar : roleOf (.reg barS) = .bar := rfl
theorem role_send (i : Fin 7) : roleOf (.dma (sendS i)) = .send i := by revert i; decide
theorem role_recv (i : Fin 7) : roleOf (.dma (recvS i)) = .recv i := by revert i; decide

abbrev N : ℕ := (cSlot 0).view.dmaCredit
theorem N_pos : 0 < N := View.dmaCredit_pos _ (by decide)
theorem N_row (j : Dev nD) : (rBlk j).view.dmaCredit = N := rfl
theorem N_slot (i : Fin 7) : (cSlot i).view.dmaCredit = N := rfl

/-! ## Contents -/

/-- A product block in `f32`: the narrowed operands multiplied, times the scale. -/
def mm (sc : F .f32) (w : FVec F S4096x256 .f32) (h : FVec F S512x4096 .fp8e4m3) : FVec F S512x256 .f32 :=
  mulf (matmul dot_S512x4096_S4096x256_S512x256_1_0_0_1_n_n none h (truncf .fp8e5m2 w bitsLt_fp8e5m2_f32)
    (constant S512x256 .f32 0x00000000#32)) (broadcast S512x256 sc)
/-- The block as it is sent. -/
def chunk (sc : F .f32) (w : FVec F S4096x256 .f32) (h : FVec F S512x4096 .fp8e4m3) : FVec F S512x256 .bf16 :=
  truncf .bf16 (mm sc w h) bitsLt_bf16_f32

/-- Device `c`'s staged scales. -/
def sxAt (c : Dev nD) : (cc0_stg0_0 : Ref sig .tc).ty.Contents (Elt F) :=
  (win0_0.blk (0 : Fin 1)).view.read (Elt F) ((s₀ m ρ).mem ((c : Thread nD τ).loc main_arg2))
def swAt (c : Dev nD) : (cc0_stg1_0 : Ref sig .tc).ty.Contents (Elt F) :=
  (win0_1.blk (0 : Fin 1)).view.read (Elt F) ((s₀ m ρ).mem ((c : Thread nD τ).loc main_arg3))
/-- The product of the two scales. -/
def scAt (c : Dev nD) : F .f32 := k0_pay1 (sxAt m ρ c) (swAt m ρ c)
/-- The rows of `x` on device `c`, -/
def xAt (c : Dev nD) : FVec F S512x4096 .f32 := m ((c : Thread nD τ).loc main_arg0)
/-- the weights on device `c`, -/
def wAt (c : Dev nD) : (main_arg1 : Ref sig .tc).ty.Contents (Elt F) := m ((c : Thread nD τ).loc main_arg1)
/-- the rows narrowed. -/
def hAt (c : Dev nD) : FVec F S512x4096 .fp8e4m3 := k0_pay2 (xAt m c)
/-- Column block `j` of the weights on device `c`. -/
def wCol (c j : Dev nD) : FVec F S4096x256 .f32 := (wBlk j).view.read (Elt F) (wAt m c)
/-- What device `c` sends device `j`. -/
def sent (c j : Dev nD) : FVec F S512x256 .bf16 := chunk (scAt m ρ c) (wCol m c j) (hAt m c)
/-- Row block `j` of device `c`'s result: its own product block, or what device `j` sent, widened. -/
def outBlk (c j : Dev nD) : FVec F S512x256 .f32 :=
  if j = c then mm (scAt m ρ c) (wCol m c c) (hAt m c) else extf .f32 (sent m ρ j c) bitsLt_bf16_f32

/-! ## Owning a memref at some contents -/

/-- Device `c` owns the memref, at some contents. -/
def any (c : Dev nD) {sp : Space} {sh : Shape} {e : EltTy} (M : Memref sig .tc sp sh e) : sProp 𝕄 :=
  iprop(∃ f, M.view.loc (c : Thread nD τ) ↦[M.view.set]{fullShare} f)
/-- Device `c` owns the memref and reads `X` through it. -/
def own (c : Dev nD) {sp : Space} {sh : Shape} {e : EltTy} (M : Memref sig .tc sp sh e) (X : sh.Idx → Elt F e) : sProp 𝕄 :=
  owns (c : Thread nD τ) M fullShare X

omit [FloatOps F] in
instance any_storable (c : Dev nD) {sp : Space} {sh : Shape} {e : EltTy} (M : Memref sig .tc sp sh e) :
    BI.Storable (upEmb : UEmb _ 𝕄) (any (F := F) c M) := by unfold any; infer_instance
omit [FloatOps F] in
instance own_storable (c : Dev nD) {sp : Space} {sh : Shape} {e : EltTy} (M : Memref sig .tc sp sh e) (X : sh.Idx → Elt F e) :
    BI.Storable (upEmb : UEmb _ 𝕄) (own c M X) := by unfold own; infer_instance

omit [FloatOps F] in
/-- A memref owned at given contents is owned at some. -/
theorem own_any (c : Dev nD) {sp : Space} {sh : Shape} {e : EltTy} (M : Memref sig .tc sp sh e) (X : sh.Idx → Elt F e) :
    own c M X ⊢ any c M := by
  unfold own any owns
  iintro ⟨%f, -, H⟩
  iexists f; iexact H

/-! ## The schedule -/

/-- What the signal paying duty `i` of `c`'s barrier cell hands over: the rows of the signaller's receive buffer that `c`
    writes, and that its receive cell for `c`'s transfer is at round 0. -/
def barPay (c : Dev nD) (i : Fin 7) : sProp 𝕄 := iprop(any (F := F) (pv c i) (rBlk c) ∗ reached ER (recvCell (pv c i) i.rev) 0)
def recvPay (c : Dev nD) (i : Fin 7) : sProp 𝕄 := own c (rBlk (pv c i)) (sent m ρ (pv c i) c)
def sendPay (c : Dev nD) (i : Fin 7) : sProp 𝕄 := any (F := F) c (cSlot i)

def payOf (c : Dev nD) (r : Role) (d : Fin 7) : sProp 𝕄 := match r with
  | .bar => barPay c d
  | .send i => sendPay c i
  | .recv i => recvPay m ρ c i
  | .none => iprop(emp)

def dutiesOf (r : Role) : Finset (Fin 7) := match r with
  | .bar => Finset.univ
  | .send _ => {0}
  | .recv _ => {0}
  | .none => ∅

/-- One round, round 0: seven one-unit duties at a barrier cell, one duty of a block's credit at a send or receive cell. -/
def ringRd : Rounds.Schedule (GSem nD τ sig) (Fin 7) 𝕄 where
  duties g r := if r = 0 ∧ g.1.2 = .tc then dutiesOf (roleOf g.2) else ∅
  unitless _ := False
  amount g _ _ := if roleOf g.2 = .bar then 1 else N
  payload g _ d := payOf m ρ g.1.1 (roleOf g.2) d
  amount_pos g _ _ _ := by
    by_cases h : roleOf g.2 = .bar
    · rw [if_pos h]; exact Nat.one_pos
    · rw [if_neg h]; exact N_pos

instance ringRd_payload_storable (g : GSem nD τ sig) (r : ℕ) (d : Fin 7) :
    BI.Storable (upEmb : UEmb _ 𝕄) ((ringRd (F := F) m ρ).payload g r d) := by
  show BI.Storable upEmb (payOf m ρ g.1.1 (roleOf g.2) d)
  unfold payOf barPay recvPay sendPay
  split <;> infer_instance

section Sched
variable (c : Dev nD) (i : Fin 7)

theorem duties_bar : (ringRd (F := F) m ρ).duties (barCell c) 0 = Finset.univ := by
  dsimp only [ringRd]; rw [if_pos ⟨rfl, rfl⟩]; rfl
theorem duties_send : (ringRd (F := F) m ρ).duties (sendCell c i) 0 = {0} := by
  dsimp only [ringRd]; rw [if_pos ⟨rfl, rfl⟩, role_send]; rfl
theorem duties_recv : (ringRd (F := F) m ρ).duties (recvCell c i) 0 = {0} := by
  dsimp only [ringRd]; rw [if_pos ⟨rfl, rfl⟩, role_recv]; rfl
theorem duties_later (g : GSem nD τ sig) : ∀ r, 1 ≤ r → (ringRd (F := F) m ρ).duties g r = ∅ :=
  fun r hr => by dsimp only [ringRd]; rw [if_neg fun h => by omega]

theorem amount_bar (d : Fin 7) : (ringRd (F := F) m ρ).amount (barCell c) 0 d = 1 := by dsimp only [ringRd]; exact if_pos rfl
theorem amount_send (d : Fin 7) : (ringRd (F := F) m ρ).amount (sendCell c i) 0 d = N := by
  dsimp only [ringRd]; rw [role_send]; exact if_neg (fun h => by cases h)
theorem amount_recv (d : Fin 7) : (ringRd (F := F) m ρ).amount (recvCell c i) 0 d = N := by
  dsimp only [ringRd]; rw [role_recv]; exact if_neg (fun h => by cases h)

theorem expect_bar : (ringRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (ringRd (F := F) m ρ).expect (sendCell c i) 0 = N := by
  unfold Schedule.expect Schedule.amountOf; rw [duties_send, Finset.sum_singleton, amount_send]
theorem expect_recv : (ringRd (F := F) m ρ).expect (recvCell c i) 0 = N := by
  unfold Schedule.expect Schedule.amountOf; rw [duties_recv, Finset.sum_singleton, amount_recv]

theorem payload_bar : (ringRd (F := F) m ρ).payload (barCell c) 0 i = barPay c i := rfl
theorem payload_send (d : Fin 7) : (ringRd (F := F) m ρ).payload (sendCell c i) 0 d = sendPay c i := by
  dsimp only [ringRd]; rw [role_send]; rfl
theorem payload_recv (d : Fin 7) : (ringRd (F := F) m ρ).payload (recvCell c i) 0 d = recvPay m ρ c i := by
  dsimp only [ringRd]; rw [role_recv]; rfl

/-- The payloads of a whole barrier round: the seven devices' rows; -/
theorem rest_bar : bigSep ((ringRd (F := F) m ρ).duties (barCell c) 0 \ ∅) (fun d => (ringRd (F := F) m ρ).payload (barCell c) 0 d)
    = bigSep Finset.univ fun d : Fin 7 => barPay (F := F) c d := by
  rw [Finset.sdiff_empty, duties_bar]; rfl
/-- of a send cell's round; -/
theorem rest_send : bigSep ((ringRd (F := F) m ρ).duties (sendCell c i) 0 \ ∅) (fun d => (ringRd (F := F) m ρ).payload (sendCell c i) 0 d)
    = sendPay c i := by
  rw [Finset.sdiff_empty, duties_send, bigSep_singleton, payload_send]
/-- of a receive cell's round. -/
theorem rest_recv : bigSep ((ringRd (F := F) m ρ).duties (recvCell c i) 0 \ ∅) (fun d => (ringRd (F := F) m ρ).payload (recvCell c i) 0 d)
    = recvPay m ρ c i := by
  rw [Finset.sdiff_empty, duties_recv, bigSep_singleton, payload_recv]

end Sched

/-! ## What each device owes; the levels -/

/-- What device `c` owes when its next signal is the `b`-th and its next transfer the `a`-th: a block at each later receive
    cell, a unit at each later barrier cell. -/
def owed (c : Dev nD) (a b : ℕ) : CellTallies nD τ sig Unit :=
  (∑ i ∈ Finset.univ.filter (fun i : Fin 7 => a ≤ i.val), tallyAt (recvCell (nx c i) i) () N)
    + ∑ i ∈ Finset.univ.filter (fun i : Fin 7 => b ≤ i.val), tallyAt (barCell (nx c i)) () 1

def O₀ (c : Dev nD) : CellTallies nD τ sig Unit := owed c 0 0

theorem filter_le_succ (i : Fin 7) :
    Finset.univ.filter (fun j : Fin 7 => i.val ≤ j.val) = insert i (Finset.univ.filter (fun j : Fin 7 => i.val + 1 ≤ j.val)) := by
  revert i; decide
theorem not_mem_filter (i : Fin 7) : i ∉ Finset.univ.filter (fun j : Fin 7 => i.val + 1 ≤ j.val) := by
  revert i; decide

/-- The `i`-th signal pays its unit; -/
theorem owed_signal (c : Dev nD) (a : ℕ) (i : Fin 7) :
    owed c a i.val = owed c a (i.val + 1) + tallyAt (barCell (nx c i)) () 1 := by
  unfold owed
  rw [filter_le_succ i, Finset.sum_insert (not_mem_filter i), add_assoc, add_comm (tallyAt (barCell (nx c i)) () 1)]
/-- the `i`-th transfer its block; -/
theorem owed_send (c : Dev nD) (i : Fin 7) (b : ℕ) :
    owed c i.val b = owed c (i.val + 1) b + tallyAt (recvCell (nx c i) i) () N := by
  unfold owed
  rw [filter_le_succ i, Finset.sum_insert (not_mem_filter i), add_comm (tallyAt (recvCell (nx c i) i) () N), add_assoc, add_assoc,
    add_comm (tallyAt (recvCell (nx c i) i) () N)]
/-- after all of them nothing is owed. -/
theorem owed_done (c : Dev nD) : owed c 7 7 = 0 := by
  have h : Finset.univ.filter (fun i : Fin 7 => 7 ≤ i.val) = ∅ := by decide
  unfold owed
  rw [h, Finset.sum_empty, Finset.sum_empty, add_zero]

def L (g : GSem nD τ sig) : Finset Unit := if g.1.2 = .tc then {()} else ∅
/-- barrier cells at 1, receive cells at 2, everything else at 0. -/
def lv (g : GSem nD τ sig) (_ : Unit) : ℕ := match roleOf g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (i : Fin 7) : lv (recvCell c i) () = 2 := by unfold lv; rw [role_recv]
theorem lv_send (c : Dev nD) (i : Fin 7) : lv (sendCell c i) () = 0 := by unfold lv; rw [role_send]

theorem sum_tally_pos {S : Finset (Fin 7)} {f : Fin 7 → GSem nD τ sig} {k : ℕ} {g : GSem nD τ sig} {u : Unit}
    (h : 0 < (∑ i ∈ S, (tallyAt (f i) () k : CellTallies nD τ sig Unit)) g u) : ∃ i ∈ S, g = f i := by
  rw [Finset.sum_apply, Finsupp.finset_sum_apply] at h
  obtain ⟨i, hi, hp⟩ := (Finset.sum_pos_iff (f := fun i => (tallyAt (f i) () k : CellTallies nD τ sig Unit) g u)).mp h
  refine ⟨i, hi, ?_⟩
  by_contra hne
  rw [tallyAt_apply, if_neg (fun h' => hne h'.1)] at hp
  exact Nat.lt_irrefl 0 hp

theorem owed_pos {c : Dev nD} {a b : ℕ} {g : GSem nD τ sig} {u : Unit} (h : 0 < owed c a b g u) :
    (∃ i : Fin 7, a ≤ i.val ∧ g = recvCell (nx c i) i) ∨ ∃ i : Fin 7, b ≤ i.val ∧ g = barCell (nx c i) := by
  unfold owed at h
  rw [Pi.add_apply, Finsupp.add_apply] at h
  rcases Nat.add_pos_iff_pos_or_pos.mp h with h | h
  · obtain ⟨i, hi, hg⟩ := sum_tally_pos (f := fun i => recvCell (nx c i) i) h
    exact .inl ⟨i, (Finset.mem_filter.mp hi).2, hg⟩
  · obtain ⟨i, hi, hg⟩ := sum_tally_pos (f := fun i => barCell (nx c i)) h
    exact .inr ⟨i, (Finset.mem_filter.mp hi).2, hg⟩

/-- A wait at a cell of level 0 may be entered owing any of it: everything owed is at level 1 or 2. -/
theorem mayWait_zero (c : Dev nD) (sm : SemLoc sig) (hq : lv ((c : Thread nD τ), sm) () = 0) (a b : ℕ) :
    (levAts L lv : sProp 𝕄) ⊢ MayWait (c : Thread nD τ) sm () (owed c a b) := by
  refine MayOwe.of_cut (L := L) (lev := lv) 0 (fun p hp => by rw [Finset.mem_singleton.mp hp, L_tc]; exact Finset.mem_singleton_self _)
    (fun g u hg => ?_) (fun p hp => by rw [Finset.mem_singleton.mp hp]; exact hq.le) (fun g u hg => ?_)
  · rcases owed_pos hg with ⟨i, -, rfl⟩ | ⟨i, -, rfl⟩ <;> exact Finset.mem_singleton_self _
  · rcases owed_pos hg with ⟨i, -, rfl⟩ | ⟨i, -, rfl⟩
    · cases u; rw [lv_recv]; decide
    · exact Nat.one_pos

/-- At its barrier wait a device owes receive credits only: receive cells are above its barrier cell. -/
theorem mayWait_bar (c : Dev nD) (a : ℕ) :
    (levAts L lv : sProp 𝕄) ⊢ MayWait (c : Thread nD τ) (.reg barS) () (owed c a 7) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact (lv_bar c).le) (fun g u hg => ?_)
  · rcases owed_pos hg with ⟨i, -, rfl⟩ | ⟨i, h, rfl⟩ <;> exact Finset.mem_singleton_self _
  · rcases owed_pos hg with ⟨i, -, rfl⟩ | ⟨i, h, rfl⟩
    · cases u; rw [lv_recv]; decide
    · exact absurd i.isLt (by omega)

end Cert.Run

end
-- ==== Proof.Steps.lean ====
/-
# One rule per effect of the kernel

Every rule names the device `c`, the index of the transfer or the slot, and what the effect takes and gives; the memrefs,
semaphores and addressed devices the program writes come in with equations, which the generated closed forms discharge.
-/
module

public import proofs.«01_k».proof.Proof.Sched

@[expose] public section

set_option maxRecDepth 16384

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes, whatever it has waited on so far. -/
def ow (c : Dev nD) (O : CellTallies nD τ sig Unit) : sProp 𝕄 := iprop(∃ W : Waits sig Unit, owes (c : Thread nD τ) O W)

/-! ## The ring's records: every cell's invariant and that every cell is at round 0 -/

/-- The ring's cells of one device: its barrier cell, its send cells, its receive cells. -/
abbrev CellIx : Type := Unit ⊕ (Fin 7 ⊕ Fin 7)
/-- The cells, by device and place. -/
abbrev kcell (ck : Dev nD × CellIx) : GSem nD τ sig := match ck.2 with
  | .inl _ => barCell ck.1
  | .inr (.inl i) => sendCell ck.1 i
  | .inr (.inr i) => recvCell ck.1 i

def records (K : Dev nD × CellIx → ℕ) : sProp 𝕄 :=
  iprop((bigSep Finset.univ fun ck => cellInv ER (ringRd m ρ) (K ck) (kcell ck)) ∗ bigSep Finset.univ fun ck => reached ER (kcell ck) 0)

instance records_persistent (K : Dev nD × CellIx → ℕ) : BI.Persistent (records m ρ K) := by unfold records; infer_instance

section Steps
variable {α : Type} {Q : α → sProp (MT nD τ sig Unit (Elt F) ℕ UU ℕ)} (K : Dev nD × CellIx → ℕ) (c : Dev nD)

theorem records_inv (ck : Dev nD × CellIx) : records m ρ K ⊢ cellInv ER (ringRd m ρ) (K ck) (kcell ck) := by
  unfold records
  exact (sep_mono_left (bigSep_elim (Finset.mem_univ ck))).trans sep_elim_left
theorem records_reached (ck : Dev nD × CellIx) : records m ρ K ⊢ reached ER (kcell ck) 0 := by
  unfold records
  exact (sep_mono_right (bigSep_elim (Finset.mem_univ ck))).trans sep_elim_right

/-! ## The barrier -/

/-- The `i`-th signal: it pays the device `i + 1` after `c` its unit, and lends it the rows that device writes. -/
theorem step_signal (i : Fin 7) (a : ℕ) {n : Dev nD} (hn : n = nx c i) {k' : ℕ} (hk' : k' = 1)
    {k : PUnit → Prog (TpuEff nD τ sig (Elt F) Λ₀ .tc) α} :
    iprop(records m ρ K ∗ ow c (owed c a i.val) ∗ dutyTok ER (barCell (nx c i)) 0 i ∗ any (F := F) c (rBlk (nx c i)))
      ⊢ iprop((ow c (owed c a (i.val + 1)) -∗ WP c (k ⟨⟩) Q) -∗ WP c (.op (.semSignal (n : Thread nD τ) barS k') k) Q) := by
  subst hn; subst hk'
  unfold ow
  iintro ⟨#HR, ⟨%W, HO⟩, Ht, Hr⟩ Hk
  iapply (Rounds.wp_signal 𝒱₀ ER (ringRd m ρ) (c : Thread nD τ) none (dst := (nx c i : Thread nD τ)) (κ := K (nx c i, .inl ()))
      (d := i) (by rw [duties_bar]; exact Finset.mem_univ _) (amount_bar m ρ (nx c i) i) () (owed c a (i.val + 1)) (owed_signal c a i))
    $$ [HO Ht Hr]
  · isplitr; · iapply (records_inv m ρ K (nx c i, .inl ())); iexact HR
    isplitl [HO]; · iexact HO
    isplitl [Ht]; · iexact Ht
    isplitl [Hr]
    · rw [payload_bar]; unfold barPay; rw [pv_nx]
      isplitl [Hr]; · iexact Hr
      iapply (records_reached m ρ K (c, .inr (.inr i.rev))); iexact HR
    · iapply (records_reached m ρ K (nx c i, .inl ())); iexact HR
  iintro HO
  iapply Hk
  iexists W; iexact HO

omit [FloatOps F] in
/-- What the seven signals hand over, by the device `i + 1` after `c`. -/
theorem rows_lent : (bigSep Finset.univ fun d : Fin 7 => barPay (F := F) c d)
    ⊢ bigSep Finset.univ fun i : Fin 7 => any (F := F) (nx c i) (rBlk c) := by
  rw [bigSep_univ_equiv Fin.revPerm (fun d : Fin 7 => barPay (F := F) c d)]
  refine bigSep_mono fun i _ => ?_
  unfold barPay
  rw [Fin.revPerm_apply, pv_rev]
  exact (show iprop(any (F := F) (nx c i) (rBlk c) ∗ reached ER (recvCell (nx c i) i.rev.rev) 0) ⊢ any (F := F) (nx c i) (rBlk c) from sep_elim_left)

/-- The barrier wait: the rows of the other devices' receive buffers that `c` writes. -/
theorem step_barWait {k' : ℕ} (hk' : k' = 7) {k : PUnit → Prog (TpuEff nD τ sig (Elt F) Λ₀ .tc) α} :
    iprop(records m ρ K ∗ levAts L lv ∗ cred (tallyAt (barCell c) () 7) ∗ ow c (owed c 0 7) ∗ atPos ER (barCell c) 0 ∅ 0)
      ⊢ iprop(((ow c (owed c 0 7) ∗ semVal (barCell c) 0 ∗ bigSep Finset.univ fun i : Fin 7 => any (F := F) (nx c i) (rBlk c)) -∗ WP c (k ⟨⟩) Q)
        -∗ WP c (.op (.semWait barS k') k) Q) := by
  subst hk'
  unfold ow
  iintro ⟨#HR, #Hlev, HcB, ⟨%W, HO⟩, HatB⟩ Hk
  iapply (Rounds.wp_wait_rest_token 𝒱₀ ER (ringRd m ρ) (c : Thread nD τ) none (κ := K (c, .inl ()))
      (wpE_semWait_eq 𝒱₀ (c : Thread nD τ) none Set.univ) (Set.mem_univ _) () (O := owed c 0 7) (W := W) (R := 0) (m := 0) (T := ∅)
      (by rw [expect_bar])) $$ [HcB HO HatB]
  · isplitr; · iapply (records_inv m ρ K (c, .inl ())); iexact HR
    isplitl [HcB]; · iexact HcB
    isplitl [HO]; · iexact HO
    isplitr; · iapply (mayWait_bar c 0); iexact Hlev
    iexact HatB
  iintro ⟨HO, HatB, -, Hpay⟩
  ihave Hp := (Entails.of_eq (rest_bar m ρ c)) $$ Hpay
  imod (Rounds.cell_close ER (ringRd m ρ) (Set.mem_univ (K (c, .inl ()))) (fun h => h) (R := 0 + 1) (duties_later m ρ (barCell c))) $$ [HatB] with HzB
  · isplitr; · iapply (records_inv m ρ K (c, .inl ())); iexact HR
    iexact HatB
  iapply Hk
  isplitl [HO]; · iexists _; iexact HO
  isplitl [HzB]; · iexact HzB
  ihave Hp' := (rows_lent c) $$ Hp
  iexact Hp'

/-! ## The transfers between devices -/

/-- A buffer's elements under a memref that reads `X` there. -/
theorem own_of (j : Dev nD) {sp : Space} {sh : Shape} {e : EltTy} (M : Memref sig .tc sp sh e)
    {f : Buf (Elt F) (M.view.loc (j : Thread nD τ))} {X : sh.Idx → Elt F e} (h : M.view.read (Elt F) f = X) :
    (M.view.loc (j : Thread nD τ) ↦[M.view.set]{fullShare} f : sProp 𝕄) ⊢ own j M X := by
  subst h
  exact owns_intro (j : Thread nD τ) M fullShare f

theorem write_blk (p j : Dev nD) (fd : Buf (Elt F) ((rBlk p).view.loc (j : Thread nD τ))) (X : FVec F S512x256 .bf16) :
    ((rBlk p).view.loc (j : Thread nD τ) ↦[(rBlk p).view.set]{fullShare} ((rBlk p).view.write (Elt F) fd X Finset.univ) : sProp 𝕄)
      ⊢ own j (rBlk p) X := by
  exact own_of j _ (View.read_write_univ _ _)

/-- The `i`-th transfer: the communication slot's block into the rows lent by the device `i + 1` after `c`. -/
theorem step_send (i : Fin 7) {n : Dev nD} (hn : n = nx c i)
    {src : Memref sig .tc .vmem S512x256 .bf16} (hsrc' : src = cSlot i)
    {dst : Memref sig (Dev.tc n : Thread nD τ).2.kind .vmem S512x256 .bf16} (hdst' : dst = rBlk c)
    {sS sV : SemLoc sig} (hsS : sS = .dma (sendS i)) (hsV : sV = .dma (recvS i))
    {hsc : dst.view.ref.isScScratch = false} {hsrc : src.view.WordExact} {hdst : dst.view.WordExact}
    {hsem : DmaTarget.Typed .vmem sV (.remote (Dev.tc n : Thread nD τ) dst sS hsc)}
    {k : PUnit → Prog (TpuEff nD τ sig (Elt F) Λ₀ .tc) α} :
    iprop(records m ρ K ∗ ow c (owed c i.val 7) ∗ own c (cSlot i) (sent m ρ c (nx c i)) ∗ any (F := F) (nx c i) (rBlk c)
        ∗ dutyTok ER (sendCell c i) 0 0 ∗ dutyTok ER (recvCell (nx c i) i) 0 0)
      ⊢ iprop(((ow c (owed c (i.val + 1) 7) ∗ cred (tallyAt (sendCell c i) () N)) -∗ WP c (k ⟨⟩) Q)
        -∗ WP c (.op (.enqueueDma src (.remote (Dev.tc n : Thread nD τ) dst sS hsc) sV hsrc hdst hsem) k) Q) := by
  subst hn; subst hsrc'; subst hdst'; subst hsS; subst hsV
  unfold ow any own owns
  iintro ⟨#HR, ⟨%W, HO⟩, ⟨%fs, %hfs, Hs⟩, ⟨%fd, Hd⟩, HtS, HtV⟩ Hk
  iapply (Rounds.wp_send_pointsTo 𝒱₀ ER (ringRd m ρ) (c : Thread nD τ) none (κ₁ := K (c, .inr (.inl i))) (κ₂ := K (nx c i, .inr (.inr i)))
    (r₁ := 0) (r₂ := 0) (d₁ := 0) (d₂ := 0) (fs := fs) (fd := fd) (q := fullShare)
    (by rw [duties_send]; exact Finset.mem_singleton_self _) (by rw [duties_recv]; exact Finset.mem_singleton_self _)
    () () N rfl (amount_send m ρ c i 0) (amount_recv m ρ (nx c i) i 0) (owed c (i.val + 1) 7) (owed_send c i 7) (W := W)
    (by rw [payload_send]; unfold sendPay any; iintro H; iexists fs; iexact H)
    (by rw [payload_recv]; unfold recvPay; rw [pv_nx, ← hfs]; exact write_blk c (nx c i) fd _)) $$ [Hs Hd HO HtS HtV]
  · isplitr; · iapply (records_inv m ρ K (c, .inr (.inl i))); iexact HR
    isplitr; · iapply (records_inv m ρ K (nx c i, .inr (.inr i))); iexact HR
    isplitl [Hs]; · iexact Hs
    isplitl [Hd]; · iexact Hd
    isplitl [HO]; · iexact HO
    isplitl [HtS]; · iexact HtS
    isplitr; · iapply (records_reached m ρ K (c, .inr (.inl i))); iexact HR
    isplitl [HtV]; · iexact HtV
    iapply (records_reached m ρ K (nx c i, .inr (.inr i))); iexact HR
  iintro ⟨Hc, HO⟩
  iapply Hk
  isplitl [HO]; · iexists W; iexact HO
  iexact Hc

/-- The wait on receive semaphore `i`: the rows at the block the device `i + 1` before `c` sent. -/
theorem step_recvWait (i : Fin 7) {sm : DmaSem sig} (hsm : sm = recvS i)
    {s' : Shape} {e' : EltTy} {srcw : Memref sig .tc .vmem s' e'} {dstw : Memref sig .tc .vmem S512x256 .bf16} (hN : dstw.view.dmaCredit = N)
    {hsrc : srcw.view.WordExact} {hdst : dstw.view.WordExact} {k : PUnit → Prog (TpuEff nD τ sig (Elt F) Λ₀ .tc) α} :
    iprop(records m ρ K ∗ ow c 0 ∗ cred (tallyAt (recvCell c i) () N) ∗ atPos ER (recvCell c i) 0 ∅ 0)
      ⊢ iprop(((ow c 0 ∗ semVal (recvCell c i) 0 ∗ own c (rBlk (pv c i)) (sent m ρ (pv c i) c)) -∗ WP c (k ⟨⟩) Q)
        -∗ WP c (.op (.waitDma2 sm srcw dstw hsrc hdst) k) Q) := by
  subst hsm
  unfold ow
  iintro ⟨#HR, ⟨%W, HO⟩, HcV, HatV⟩ Hk
  iapply (Rounds.wp_wait_rest_token 𝒱₀ ER (ringRd m ρ) (c : Thread nD τ) none (κ := K (c, .inr (.inr i)))
      (wpE_waitDma2_eq 𝒱₀ (c : Thread nD τ) none Set.univ) (Set.mem_univ _) () (O := 0) (W := W) (R := 0) (m := 0) (T := ∅)
      (by rw [Nat.zero_add, hN, expect_recv])) $$ [HcV HO HatV]
  · isplitr; · iapply (records_inv m ρ K (c, .inr (.inr i))); iexact HR
    isplitl [HcV]; · rw [hN]; iexact HcV
    isplitl [HO]; · iexact HO
    isplitr; · rw [MayWait_zero]; iempintro
    iexact HatV
  iintro ⟨HO, HatV, -, Hpay⟩
  ihave Hp := (Entails.of_eq (rest_recv m ρ c i)) $$ Hpay
  imod (Rounds.cell_close ER (ringRd m ρ) (Set.mem_univ (K (c, .inr (.inr i)))) (fun h => h) (R := 0 + 1) (duties_later m ρ (recvCell c i))) $$ [HatV] with Hz
  · isplitr; · iapply (records_inv m ρ K (c, .inr (.inr i))); iexact HR
    iexact HatV
  iapply Hk
  isplitl [HO]; · iexists _; iexact HO
  isplitl [Hz]; · iexact Hz
  unfold recvPay; iexact Hp

/-- The wait on send semaphore `i`: the communication slot back. -/
theorem step_sendWait (i : Fin 7) {sm : DmaSem sig} (hsm : sm = sendS i)
    {s' : Shape} {e' : EltTy} {srcw : Memref sig .tc .vmem s' e'} {dstw : Memref sig .tc .vmem S512x256 .bf16} (hN : dstw.view.dmaCredit = N)
    {hsrc : srcw.view.WordExact} {hdst : dstw.view.WordExact} {k : PUnit → Prog (TpuEff nD τ sig (Elt F) Λ₀ .tc) α} :
    iprop(records m ρ K ∗ ow c 0 ∗ cred (tallyAt (sendCell c i) () N) ∗ atPos ER (sendCell c i) 0 ∅ 0)
      ⊢ iprop(((ow c 0 ∗ semVal (sendCell c i) 0 ∗ any (F := F) c (cSlot i)) -∗ WP c (k ⟨⟩) Q)
        -∗ WP c (.op (.waitDma2 sm srcw dstw hsrc hdst) k) Q) := by
  subst hsm
  unfold ow
  iintro ⟨#HR, ⟨%W, HO⟩, HcS, HatS⟩ Hk
  iapply (Rounds.wp_wait_rest_token 𝒱₀ ER (ringRd m ρ) (c : Thread nD τ) none (κ := K (c, .inr (.inl i)))
      (wpE_waitDma2_eq 𝒱₀ (c : Thread nD τ) none Set.univ) (Set.mem_univ _) () (O := 0) (W := W) (R := 0) (m := 0) (T := ∅)
      (by rw [Nat.zero_add, hN, expect_send])) $$ [HcS HO HatS]
  · isplitr; · iapply (records_inv m ρ K (c, .inr (.inl i))); iexact HR
    isplitl [HcS]; · rw [hN]; iexact HcS
    isplitl [HO]; · iexact HO
    isplitr; · rw [MayWait_zero]; iempintro
    iexact HatS
  iintro ⟨HO, HatS, -, Hpay⟩
  ihave Hp := (Entails.of_eq (rest_send m ρ c i)) $$ Hpay
  imod (Rounds.cell_close ER (ringRd m ρ) (Set.mem_univ (K (c, .inr (.inl i)))) (fun h => h) (R := 0 + 1) (duties_later m ρ (sendCell c i))) $$ [HatS] with Hz
  · isplitr; · iapply (records_inv m ρ K (c, .inr (.inl i))); iexact HR
    iexact HatS
  iapply Hk
  isplitl [HO]; · iexists _; iexact HO
  isplitl [Hz]; · iexact Hz
  unfold sendPay; iexact Hp

/-! ## The local transfers -/

/-- The semaphore of the load of `x`, and of the weight slot `s`. -/
abbrev xS : DmaSem sig := ⟨3, by decide⟩
abbrev wS (s : Fin 3) : DmaSem sig := ⟨4 + s.val, (by decide : ∀ s : Fin 3, 4 + s.val < sig.nDmaSem) s⟩

/-- Device `c`'s whole buffer `b` at contents `f`. -/
abbrev whole (b : Ref sig .tc) (f : Buf (Elt F) ((c : Thread nD τ).loc b)) : sProp 𝕄 := (c : Thread nD τ).loc b ↦{fullShare} f
/-- Column block `j` of device `c`'s weights, at their launch contents. -/
def wPts (j : Dev nD) : sProp 𝕄 := (wBlk j).view.loc (c : Thread nD τ) ↦[(wBlk j).view.set]{fullShare} (wAt m c)
/-- A weight slot free for the next load: its buffer and its semaphore's counter at zero. -/
def free (s : Fin 3) : sProp 𝕄 := iprop(any (F := F) c (wSlot s) ∗ semVal ((c : Thread nD τ), .dma (wS s)) 0)
abbrev NW : ℕ := (wSlot 0).view.dmaCredit
/-- Column block `j` under way into slot `s`. -/
def loading (s : Fin 3) (j : Dev nD) : sProp 𝕄 :=
  Transfers.Flight EC (c : Thread nD τ) (.dma (wS s)) () NW iprop(own c (wSlot s) (wCol m c j) ∗ wPts m c j)
/-- Column block `j` in slot `s`. -/
def loaded (s : Fin 3) (j : Dev nD) : sProp 𝕄 :=
  iprop((own c (wSlot s) (wCol m c j) ∗ wPts m c j) ∗ semVal ((c : Thread nD τ), .dma (wS s)) 0)
/-- The load of `x` under way. -/
def xLoading : sProp 𝕄 :=
  Transfers.Flight EC (c : Thread nD τ) (.dma xS) () (xM.view.dmaCredit) iprop(whole c cc0_scratch0 (xAt m c) ∗ whole c main_arg0 (xAt m c))

theorem lv_wS (s : Fin 3) : lv ((c : Thread nD τ), .dma (wS s)) () = 0 := by
  have h : roleOf (.dma (wS s)) = .none := by revert s; decide
  unfold lv; rw [h]
theorem lv_xS : lv ((c : Thread nD τ), .dma xS) () = 0 := by
  have h : roleOf (.dma xS) = .none := by decide
  unfold lv; rw [h]

/-- Starting the load of a column block into a free slot. -/
theorem step_wStart (s : Fin 3) (j : Dev nD)
    {src : Memref sig .tc .hbm S4096x256 .f32} (hsrc' : src = wBlk j) {dst : Memref sig .tc .vmem S4096x256 .f32} (hdst' : dst = wSlot s)
    {sm : SemLoc sig} (hsm : sm = .dma (wS s))
    {hsrc : src.view.WordExact} {hdst : dst.view.WordExact} {hsem : DmaTarget.Typed (nD := nD) (τ := τ) (p := .tc) .hbm sm (.here dst)}
    {k : PUnit → Prog (TpuEff nD τ sig (Elt F) Λ₀ .tc) α} :
    iprop(free (F := F) c s ∗ wPts m c j)
      ⊢ iprop((loading m c s j -∗ WP c (k ⟨⟩) Q) -∗ WP c (.op (.enqueueDma src (.here dst) sm hsrc hdst hsem) k) Q) := by
  subst hsrc'; subst hdst'; subst hsm
  unfold free any wPts loading
  iintro ⟨⟨⟨%fd, Hd⟩, Hz⟩, Hs⟩ Hk
  iapply (Transfers.wp_dmaLocal EC 𝒱₀ (c : Thread nD τ) none () NW rfl (View.dmaCredit_pos _ (by decide)) (Finset.Subset.refl _) (fd := fd)) $$ [Hs Hd Hz]
  · isplitl [Hs]; · iexact Hs
    isplitl [Hd]; · iexact Hd
    iexact Hz
  iintro Hf
  iapply Hk
  iapply (Transfers.Flight_mono (EC := EC) ?_) $$ Hf
  exact sep_mono_left (own_of c _ (View.read_write_univ _ _))

/-- Waiting for it. -/
theorem step_wWait (s : Fin 3) (j : Dev nD) (a : ℕ) {sm : DmaSem sig} (hsm : sm = wS s)
    {s' : Shape} {e' : EltTy} {srcw : Memref sig .tc .hbm s' e'} {dstw : Memref sig .tc .vmem S4096x256 .f32} (hN : dstw.view.dmaCredit = NW)
    {hsrc : srcw.view.WordExact} {hdst : dstw.view.WordExact} {k : PUnit → Prog (TpuEff nD τ sig (Elt F) Λ₀ .tc) α} :
    iprop(levAts L lv ∗ loading m c s j ∗ ow c (owed c a 7))
      ⊢ iprop(((loaded m c s j ∗ ow c (owed c a 7)) -∗ WP c (k ⟨⟩) Q) -∗ WP c (.op (.waitDma2 sm srcw dstw hsrc hdst) k) Q) := by
  subst hsm
  unfold loading loaded ow
  iintro ⟨#Hlev, Hf, ⟨%W, HO⟩⟩ Hk
  iapply (Transfers.wp_waitLocalO EC 𝒱₀ (c : Thread nD τ) none () hN (O := owed c a 7) (W := W)) $$ [Hf HO]
  · isplitl [Hf]; · iexact Hf
    isplitl [HO]; · iexact HO
    iapply (mayWait_zero c _ (lv_wS c s) a 7); iexact Hlev
  iintro ⟨HD, Hz, HO⟩
  iapply Hk
  isplitl [HD Hz]
  · isplitl [HD]; · iexact HD
    iexact Hz
  iexists _; iexact HO

/-- Once it is read the slot is free again, and the weights' columns are back. -/
theorem loaded_free (s : Fin 3) (j : Dev nD) : loaded m c s j ⊢ iprop(free (F := F) c s ∗ wPts m c j) := by
  unfold loaded free
  iintro ⟨⟨Ho, Hw⟩, Hz⟩
  isplitl [Ho Hz]
  · isplitl [Ho]; · iapply (own_any c _ _) $$ Ho
    iexact Hz
  iexact Hw

theorem x_landed (fd : Buf (Elt F) ((xM : Memref sig .tc .vmem S512x4096 .f32).view.loc (c : Thread nD τ))) :
    iprop(((xM : Memref sig .tc .vmem S512x4096 .f32).view.loc (c : Thread nD τ) ↦[Finset.univ]{fullShare}
          ((xM : Memref sig .tc .vmem S512x4096 .f32).view.write (Elt F) fd
            ((xA : Memref sig .tc .hbm S512x4096 .f32).view.read (Elt F) (xAt m c)) Finset.univ))
        ∗ ((xA : Memref sig .tc .hbm S512x4096 .f32).view.loc (c : Thread nD τ) ↦[(xA : Memref sig .tc .hbm S512x4096 .f32).view.set]{fullShare} (xAt m c)))
      ⊢ iprop(whole c cc0_scratch0 (xAt m c) ∗ whole c main_arg0 (xAt m c)) := by
  have h1 : (xM : Memref sig .tc .vmem S512x4096 .f32).view.write (Elt F) fd ((xA : Memref sig .tc .hbm S512x4096 .f32).view.read (Elt F) (xAt m c)) Finset.univ
      = xAt m c := by
    rw [View.write_whole_univ]; rfl
  have h2 : (xA : Memref sig .tc .hbm S512x4096 .f32).view.set = Finset.univ := View.set_whole _
  rw [h1, h2]

/-- Starting the load of `x`. -/
theorem step_xStart {hsrc : (xA : Memref sig .tc .hbm S512x4096 .f32).view.WordExact} {hdst : (xM : Memref sig .tc .vmem S512x4096 .f32).view.WordExact}
    {hsem : DmaTarget.Typed (nD := nD) (τ := τ) (p := .tc) .hbm (.dma xS) (.here xM)}
    {k : PUnit → Prog (TpuEff nD τ sig (Elt F) Λ₀ .tc) α} :
    iprop(whole c main_arg0 (xAt m c) ∗ (∃ f, whole c cc0_scratch0 f) ∗ semVal ((c : Thread nD τ), .dma xS) 0)
      ⊢ iprop((xLoading m c -∗ WP c (k ⟨⟩) Q) -∗ WP c (.op (.enqueueDma xA (.here xM) (.dma xS) hsrc hdst hsem) k) Q) := by
  have hs : (xA : Memref sig .tc .hbm S512x4096 .f32).view.set = Finset.univ := View.set_whole _
  have hd : (xM : Memref sig .tc .vmem S512x4096 .f32).view.set = Finset.univ := View.set_whole _
  unfold xLoading
  iintro ⟨Hs, ⟨%fd, Hd⟩, Hz⟩ Hk
  iapply (Transfers.wp_dmaLocal EC 𝒱₀ (c : Thread nD τ) none () (xM.view.dmaCredit) rfl (View.dmaCredit_pos _ (by decide)) (Finset.subset_univ _)
    (src := xA) (dst := xM) (fs := xAt m c) (Sd := Finset.univ) (fd := fd) (q := fullShare)) $$ [Hs Hd Hz]
  · isplitl [Hs]; · rw [hs]; iexact Hs
    isplitl [Hd]; · iexact Hd
    iexact Hz
  iintro Hf
  iapply Hk
  iapply (Transfers.Flight_mono (EC := EC) (c : Thread nD τ) (x_landed m c fd)) $$ Hf

/-- Waiting for it. -/
theorem step_xWait (a : ℕ) {hsrc : (xA : Memref sig .tc .hbm S512x4096 .f32).view.WordExact} {hdst : (xM : Memref sig .tc .vmem S512x4096 .f32).view.WordExact}
    {k : PUnit → Prog (TpuEff nD τ sig (Elt F) Λ₀ .tc) α} :
    iprop(levAts L lv ∗ xLoading m c ∗ ow c (owed c a 7))
      ⊢ iprop(((whole c cc0_scratch0 (xAt m c) ∗ whole c main_arg0 (xAt m c) ∗ semVal ((c : Thread nD τ), .dma xS) 0 ∗ ow c (owed c a 7)) -∗ WP c (k ⟨⟩) Q)
        -∗ WP c (.op (.waitDma2 xS xA xM hsrc hdst) k) Q) := by
  unfold xLoading ow
  iintro ⟨#Hlev, Hf, ⟨%W, HO⟩⟩ Hk
  iapply (Transfers.wp_waitLocalO EC 𝒱₀ (c : Thread nD τ) none () rfl (O := owed c a 7) (W := W)) $$ [Hf HO]
  · isplitl [Hf]; · iexact Hf
    isplitl [HO]; · iexact HO
    iapply (mayWait_zero c _ (lv_xS c) a 7); iexact Hlev
  iintro ⟨⟨H1, H2⟩, Hz, HO⟩
  iapply Hk
  isplitl [H1]; · iexact H1
  isplitl [H2]; · iexact H2
  isplitl [Hz]; · iexact Hz
  iexists _; iexact HO

/-! ## Loads and stores -/

theorem hz1 : (![0] : Fin 1 → Nat) = fun _ => 0 := funext fun a => by fin_cases a; rfl
theorem hz2 : (![0, 0] : Fin 2 → Nat) = fun _ => 0 := funext fun a => by fin_cases a <;> rfl

/-- Loading the staged scales, -/
theorem step_sxLoad (f : Vec F S1 .f32) {h} {hl} {k : Vec F S1 .f32 → Prog (TpuEff nD τ sig (Elt F) Λ₀ .tc) α} :
    (whole c cc0_stg0_0 f : sProp 𝕄) ⊢ iprop((whole c cc0_stg0_0 f -∗ WP c (k f) Q)
        -∗ WP c (.op (.load sxM (Rect.unit (s := S1) ![0] S1.size h).toLoadRect hl) k) Q) := by
  have hr : sxM.view.readAt (Elt F) (Rect.unit (s := S1) ![0] S1.size h).toLoadRect f = f := Memref.readAt_unit_zero (Elt F) cc0_stg0_0 hz1 h f
  iintro H Hk
  iapply (wp_load 𝒱₀ (c : Thread nD τ) none Set.univ (m := sxM) (Finset.subset_univ _)) $$ H; iintro H
  rw [hr]
  iapply Hk; iexact H
theorem step_swLoad (f : Vec F S1 .f32) {h} {hl} {k : Vec F S1 .f32 → Prog (TpuEff nD τ sig (Elt F) Λ₀ .tc) α} :
    (whole c cc0_stg1_0 f : sProp 𝕄) ⊢ iprop((whole c cc0_stg1_0 f -∗ WP c (k f) Q)
        -∗ WP c (.op (.load swM (Rect.unit (s := S1) ![0] S1.size h).toLoadRect hl) k) Q) := by
  have hr : swM.view.readAt (Elt F) (Rect.unit (s := S1) ![0] S1.size h).toLoadRect f = f := Memref.readAt_unit_zero (Elt F) cc0_stg1_0 hz1 h f
  iintro H Hk
  iapply (wp_load 𝒱₀ (c : Thread nD τ) none Set.univ (m := swM) (Finset.subset_univ _)) $$ H; iintro H
  rw [hr]
  iapply Hk; iexact H
/-- the rows of `x`, -/
theorem step_xLoad (f : Vec F S512x4096 .f32) {h} {hl} {k : Vec F S512x4096 .f32 → Prog (TpuEff nD τ sig (Elt F) Λ₀ .tc) α} :
    (whole c cc0_scratch0 f : sProp 𝕄) ⊢ iprop((whole c cc0_scratch0 f -∗ WP c (k f) Q)
        -∗ WP c (.op (.load xM (Rect.unit (s := S512x4096) ![0, 0] S512x4096.size h).toLoadRect hl) k) Q) := by
  have hr : xM.view.readAt (Elt F) (Rect.unit (s := S512x4096) ![0, 0] S512x4096.size h).toLoadRect f = f := Memref.readAt_unit_zero (Elt F) cc0_scratch0 hz2 h f
  iintro H Hk
  iapply (wp_load 𝒱₀ (c : Thread nD τ) none Set.univ (m := xM) (Finset.subset_univ _)) $$ H; iintro H
  rw [hr]
  iapply Hk; iexact H
/-- the narrowed rows. -/
theorem step_hLoad (f : Vec F S512x4096 .fp8e4m3) {h} {hl} {k : Vec F S512x4096 .fp8e4m3 → Prog (TpuEff nD τ sig (Elt F) Λ₀ .tc) α} :
    (whole c cc0_scratch1 f : sProp 𝕄) ⊢ iprop((whole c cc0_scratch1 f -∗ WP c (k f) Q)
        -∗ WP c (.op (.load hM (Rect.unit (s := S512x4096) ![0, 0] S512x4096.size h).toLoadRect hl) k) Q) := by
  have hr : hM.view.readAt (Elt F) (Rect.unit (s := S512x4096) ![0, 0] S512x4096.size h).toLoadRect f = f := Memref.readAt_unit_zero (Elt F) cc0_scratch1 hz2 h f
  iintro H Hk
  iapply (wp_load 𝒱₀ (c : Thread nD τ) none Set.univ (m := hM) (Finset.subset_univ _)) $$ H; iintro H
  rw [hr]
  iapply Hk; iexact H
/-- Storing the narrowed rows. -/
theorem step_hStore (f w : Vec F S512x4096 .fp8e4m3) {h} {hx} {hm} {k : PUnit → Prog (TpuEff nD τ sig (Elt F) Λ₀ .tc) α} :
    (whole c cc0_scratch1 f : sProp 𝕄) ⊢ iprop((whole c cc0_scratch1 w -∗ WP c (k ⟨⟩) Q)
        -∗ WP c (.op (.store hM (Rect.unit (s := S512x4096) ![0, 0] S512x4096.size h) w Finset.univ hx hm) k) Q) := by
  have hr : (hM.access (Rect.unit (s := S512x4096) ![0, 0] S512x4096.size h)).write (Elt F) f w Finset.univ = w :=
    Memref.write_access_unit_zero_univ (Elt F) cc0_scratch1 hz2 h f w
  iintro H Hk
  iapply (wp_store 𝒱₀ (c : Thread nD τ) none Set.univ (m := hM) (r := Rect.unit (s := S512x4096) ![0, 0] S512x4096.size h) (Mk := Finset.univ) (S := Finset.univ) (f := f) (Finset.subset_univ _)) $$ H; iintro H
  rw [hr]
  iapply Hk; iexact H

/-- Loading a weight slot: what is read, as a matrix, is the column block there. -/
theorem step_slotLoad (s : Fin 3) (X : FVec F S4096x256 .f32) {off : Fin 3 → Nat} {hi} (ho : off = ![s.val, 0, 0]) {hl}
    {k : Vec F S1x4096x256 .f32 → Prog (TpuEff nD τ sig (Elt F) Λ₀ .tc) α} :
    own c (wSlot s) X ⊢ iprop((∀ v : Vec F S1x4096x256 .f32, ⌜shapeCast S4096x256 v shapeCasts_S1x4096x256_S4096x256 = X⌝ -∗ own c (wSlot s) X -∗ WP c (k v) Q)
        -∗ WP c (.op (.load wM (Rect.unit (s := S3x4096x256) off S1x4096x256.size hi).toLoadRect hl) k) Q) := by
  subst ho
  unfold own owns
  iintro ⟨%f, %hf, H⟩ Hk
  iapply (wp_load_rect 𝒱₀ (c : Thread nD τ) none Set.univ (m := wM) (r := wRect s) (S := (wSlot s).view.set) (f := f)
    (by rw [View.set_reshape])) $$ H
  iintro H
  iapply Hk $$ %_
  · ipureintro; rw [← hf]; rfl
  iexists f
  isplitr; · ipureintro; exact hf
  iexact H

/-- A block stored in a communication slot, read as the transfer reads it. -/
theorem read_slot (i : Fin 7) (f : Buf (Elt F) (cM.view.loc (c : Thread nD τ))) (X : FVec F S512x256 .bf16) :
    (cSlot i).view.read (Elt F) ((cM.access (cRect i)).write (Elt F) f (shapeCast S1x512x256 X shapeCasts_S512x256_S1x512x256) Finset.univ) = X := by
  funext x
  refine (View.read_write_of_mem (v := cM.access (cRect i)) f (shapeCast S1x512x256 X shapeCasts_S512x256_S1x512x256)
    (Finset.mem_univ (Shape.reshapeEquiv squeezes_S1x512x256_S512x256.numel_eq x))).trans ?_
  show X (Shape.reshapeEquiv _ (Shape.reshapeEquiv _ x)) = X x
  rw [Shape.reshapeEquiv_reshapeEquiv, Shape.reshapeEquiv_self]

/-- Storing a block into a communication slot. -/
theorem step_slotStore (i : Fin 7) (X : FVec F S512x256 .bf16) {off : Fin 3 → Nat} {hi} (ho : off = ![i.val, 0, 0])
    {w : Vec F S1x512x256 .bf16} (hw : w = shapeCast S1x512x256 X shapeCasts_S512x256_S1x512x256)
    {hl} {hx} {hm} {k : PUnit → Prog (TpuEff nD τ sig (Elt F) Λ₀ .tc) α} :
    any (F := F) c (cSlot i) ⊢ iprop((own c (cSlot i) X -∗ WP c (k ⟨⟩) Q)
        -∗ WP c (.op (.load cM (Rect.unit (s := S7x512x256) off S1x512x256.size hi).toLoadRect hl) fun _ =>
            .op (.store cM (Rect.unit (s := S7x512x256) off S1x512x256.size hi) w Finset.univ hx hm) k) Q) := by
  subst ho; subst hw
  unfold any own owns
  iintro ⟨%f, H⟩ Hk
  iapply (wp_load_rect 𝒱₀ (c : Thread nD τ) none Set.univ (m := cM) (r := cRect i) (S := (cSlot i).view.set) (f := f)
    (by rw [View.set_reshape])) $$ H
  iintro H
  iapply (wp_store 𝒱₀ (c : Thread nD τ) none Set.univ (m := cM) (r := cRect i) (Mk := Finset.univ) (S := (cSlot i).view.set) (f := f)
    (by rw [View.set_reshape]; rfl)) $$ H
  iintro H
  iapply Hk
  iexists _
  isplitr
  · ipureintro
    exact read_slot c i f X
  iexact H

/-- Loading a row block of the receive buffer. -/
theorem step_rowLoad (j : Dev nD) (X : FVec F S512x256 .bf16) {off : Fin 2 → Nat} {hi} (ho : off = ![512 * j.val, 0]) {hl}
    {k : Vec F S512x256 .bf16 → Prog (TpuEff nD τ sig (Elt F) Λ₀ .tc) α} :
    own c (rBlk j) X ⊢ iprop((own c (rBlk j) X -∗ WP c (k X) Q)
        -∗ WP c (.op (.load rM (Rect.unit (s := S4096x256) off S512x256.size hi).toLoadRect hl) k) Q) := by
  subst ho
  unfold own owns
  iintro ⟨%f, %hf, H⟩ Hk
  iapply (wp_load_rect 𝒱₀ (c : Thread nD τ) none Set.univ (m := rM) (r := row j) (S := (rBlk j).view.set) (f := f)
    (Finset.Subset.refl _)) $$ H
  iintro H
  rw [show (rM.access (row j)).read (Elt F) f = X from hf]
  iapply Hk
  iexists f
  isplitr; · ipureintro; exact hf
  iexact H

/-- Storing a row block of the result. -/
theorem step_rowStore (j : Dev nD) {w : Vec F S512x256 .f32} {off : Fin 2 → Nat} {hi} (ho : off = ![512 * j.val, 0])
    {hl} {hx} {hm} {k : PUnit → Prog (TpuEff nD τ sig (Elt F) Λ₀ .tc) α} :
    any (F := F) c (oBlk j) ⊢ iprop((own c (oBlk j) w -∗ WP c (k ⟨⟩) Q)
        -∗ WP c (.op (.load oM (Rect.unit (s := S4096x256) off S512x256.size hi).toLoadRect hl) fun _ =>
            .op (.store oM (Rect.unit (s := S4096x256) off S512x256.size hi) w Finset.univ hx hm) k) Q) := by
  subst ho
  unfold any
  iintro ⟨%f, H⟩ Hk
  iapply (wp_load_rect 𝒱₀ (c : Thread nD τ) none Set.univ (m := oM) (r := row j) (S := (oBlk j).view.set) (f := f)
    (Finset.Subset.refl _)) $$ H
  iintro H
  iapply (wp_store 𝒱₀ (c : Thread nD τ) none Set.univ (m := oM) (r := row j) (Mk := Finset.univ) (S := (oBlk j).view.set) (f := f)
    (Finset.Subset.refl _)) $$ H
  iintro H
  ihave H' := (own_of c (oBlk j) (View.read_write_univ _ _)) $$ H
  iapply Hk; iexact H'

end Steps

end Cert.Run

end
-- ==== Proof.Parts.lean ====
/-
# The kernel's parts

The printed body is cut into parts; each is run here by the rules of `Steps`, in program order.
-/
module

public import proofs.«01_k».proof.Proof.Steps

@[expose] public section

set_option maxRecDepth 16384

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The bundles the parts take and give, per transfer -/

section Bundles
variable (c : Dev nD) (i : Fin 7)

/-- For the `i`-th signal: its duty and the rows it lends. -/
abbrev Sig : sProp 𝕄 := iprop(dutyTok ER (barCell (nx c i)) 0 i ∗ any (F := F) c (rBlk (nx c i)))
/-- For the `i`-th transfer: the communication slot and the two duties. -/
abbrev Snd : sProp 𝕄 := iprop(any (F := F) c (cSlot i) ∗ dutyTok ER (sendCell c i) 0 0 ∗ dutyTok ER (recvCell (nx c i) i) 0 0)
/-- The rows lent for it. -/
abbrev Lent : sProp 𝕄 := any (F := F) (nx c i) (rBlk c)
/-- Its credit once it is started. -/
abbrev Crd : sProp 𝕄 := cred (tallyAt (sendCell c i) () N)
/-- For the `i`-th receive: its credit, its position and the rows of the result it fills. -/
abbrev Rcv : sProp 𝕄 := iprop(cred (tallyAt (recvCell c i) () N) ∗ atPos ER (recvCell c i) 0 ∅ 0 ∗ any (F := F) c (oBlk (pv c i)))
/-- What the `i`-th receive leaves. -/
abbrev Got : sProp 𝕄 := iprop(semVal (recvCell c i) 0 ∗ own c (rBlk (pv c i)) (sent m ρ (pv c i) c) ∗ own c (oBlk (pv c i)) (outBlk m ρ c (pv c i)))
/-- For the `i`-th send wait. -/
abbrev Wt : sProp 𝕄 := iprop(cred (tallyAt (sendCell c i) () N) ∗ atPos ER (sendCell c i) 0 ∅ 0)
/-- What it leaves. -/
abbrev Don : sProp 𝕄 := iprop(semVal (sendCell c i) 0 ∗ any (F := F) c (cSlot i))

end Bundles

/-! ## The program's memrefs, devices and payloads in closed form -/

theorem wBlk_of (j : Dev nD) {off : Fin 2 → Nat} {hi} {hh} (ho : off = ![0, 256 * j.val]) :
    (wA.slice (Rect.unit (s := S4096x2048) off S4096x256.size hi) hh : Memref sig .tc .hbm S4096x256 .f32) = wBlk j := by subst ho; rfl
theorem rBlk_of (j : Dev nD) {off : Fin 2 → Nat} {hi} {hh} (ho : off = ![512 * j.val, 0]) :
    (rM.slice (Rect.unit (s := S4096x256) off S512x256.size hi) hh : Memref sig .tc .vmem S512x256 .bf16) = rBlk j := by subst ho; rfl

theorem dev1 (c : Dev nD) : (⟨k0_dev1 c, k0_dev1_lt c⟩ : Dev nD) = nx c 0 := Fin.ext (k0_dev1_eq c)
theorem dev2 (c : Dev nD) : (⟨k0_dev2 c, k0_dev2_lt c⟩ : Dev nD) = nx c 1 := Fin.ext (k0_dev2_eq c)
theorem dev3 (c : Dev nD) : (⟨k0_dev3 c, k0_dev3_lt c⟩ : Dev nD) = nx c 2 := Fin.ext (k0_dev3_eq c)
theorem dev4 (c : Dev nD) : (⟨k0_dev4 c, k0_dev4_lt c⟩ : Dev nD) = nx c 3 := Fin.ext (k0_dev4_eq c)
theorem dev5 (c : Dev nD) : (⟨k0_dev5 c, k0_dev5_lt c⟩ : Dev nD) = nx c 4 := Fin.ext (k0_dev5_eq c)
theorem dev6 (c : Dev nD) : (⟨k0_dev6 c, k0_dev6_lt c⟩ : Dev nD) = nx c 5 := Fin.ext (k0_dev6_eq c)
theorem dev7 (c : Dev nD) : (⟨k0_dev7 c, k0_dev7_lt c⟩ : Dev nD) = nx c 6 := Fin.ext (k0_dev7_eq c)
theorem dev8 (c : Dev nD) : (⟨k0_dev8 c, k0_dev8_lt c⟩ : Dev nD) = nx c 0 := Fin.ext (k0_dev8_eq c)
theorem dev9 (c : Dev nD) : (⟨k0_dev9 c, k0_dev9_lt c⟩ : Dev nD) = nx c 1 := Fin.ext (k0_dev9_eq c)
theorem dev10 (c : Dev nD) : (⟨k0_dev10 c, k0_dev10_lt c⟩ : Dev nD) = nx c 2 := Fin.ext (k0_dev10_eq c)
theorem dev11 (c : Dev nD) : (⟨k0_dev11 c, k0_dev11_lt c⟩ : Dev nD) = nx c 3 := Fin.ext (k0_dev11_eq c)
theorem dev12 (c : Dev nD) : (⟨k0_dev12 c, k0_dev12_lt c⟩ : Dev nD) = nx c 4 := Fin.ext (k0_dev12_eq c)
theorem dev13 (c : Dev nD) : (⟨k0_dev13 c, k0_dev13_lt c⟩ : Dev nD) = nx c 5 := Fin.ext (k0_dev13_eq c)
theorem dev14 (c : Dev nD) : (⟨k0_dev14 c, k0_dev14_lt c⟩ : Dev nD) = nx c 6 := Fin.ext (k0_dev14_eq c)
theorem off1_0 (c : Dev nD) : k0_off1 c 1#32 = ![0, 256 * (nx c 0).val] := k0_off1_eq c 0
theorem off1_1 (c : Dev nD) : k0_off1 c 2#32 = ![0, 256 * (nx c 1).val] := k0_off1_eq c 1
theorem off2_0 (c : Dev nD) : k0_off2 c 1#32 = ![0, 256 * (nx c 2).val] := k0_off2_eq c 0
theorem off2_1 (c : Dev nD) : k0_off2 c 2#32 = ![0, 256 * (nx c 3).val] := k0_off2_eq c 1
theorem off2_2 (c : Dev nD) : k0_off2 c 3#32 = ![0, 256 * (nx c 4).val] := k0_off2_eq c 2
theorem off2_3 (c : Dev nD) : k0_off2 c 4#32 = ![0, 256 * (nx c 5).val] := k0_off2_eq c 3
theorem off2_4 (c : Dev nD) : k0_off2 c 5#32 = ![0, 256 * (nx c 6).val] := k0_off2_eq c 4
theorem off2_5 (c : Dev nD) : k0_off2 c 6#32 = ![0, 256 * c.val] := by revert c; decide +kernel
theorem off5_0 (c : Dev nD) : k0_off5 c 1#32 = ![512 * (pv c 0).val, 0] := k0_off5_eq c 0
theorem off6_0 (c : Dev nD) : k0_off6 c 1#32 = ![512 * (pv c 0).val, 0] := k0_off6_eq c 0
theorem off5_1 (c : Dev nD) : k0_off5 c 2#32 = ![512 * (pv c 1).val, 0] := k0_off5_eq c 1
theorem off6_1 (c : Dev nD) : k0_off6 c 2#32 = ![512 * (pv c 1).val, 0] := k0_off6_eq c 1
theorem off5_2 (c : Dev nD) : k0_off5 c 3#32 = ![512 * (pv c 2).val, 0] := k0_off5_eq c 2
theorem off6_2 (c : Dev nD) : k0_off6 c 3#32 = ![512 * (pv c 2).val, 0] := k0_off6_eq c 2
theorem off5_3 (c : Dev nD) : k0_off5 c 4#32 = ![512 * (pv c 3).val, 0] := k0_off5_eq c 3
theorem off6_3 (c : Dev nD) : k0_off6 c 4#32 = ![512 * (pv c 3).val, 0] := k0_off6_eq c 3
theorem off5_4 (c : Dev nD) : k0_off5 c 5#32 = ![512 * (pv c 4).val, 0] := k0_off5_eq c 4
theorem off6_4 (c : Dev nD) : k0_off6 c 5#32 = ![512 * (pv c 4).val, 0] := k0_off6_eq c 4
theorem off5_5 (c : Dev nD) : k0_off5 c 6#32 = ![512 * (pv c 5).val, 0] := k0_off5_eq c 5
theorem off6_5 (c : Dev nD) : k0_off6 c 6#32 = ![512 * (pv c 5).val, 0] := k0_off6_eq c 5
theorem off5_6 (c : Dev nD) : k0_off5 c 7#32 = ![512 * (pv c 6).val, 0] := k0_off5_eq c 6
theorem off6_6 (c : Dev nD) : k0_off6 c 7#32 = ![512 * (pv c 6).val, 0] := k0_off6_eq c 6

theorem pv_ne (c : Dev nD) (i : Fin 7) : pv c i ≠ c := by revert c i; decide
/-- Row block `pv c i` of the result is what that device sent, widened; -/
theorem outBlk_pv (c : Dev nD) (i : Fin 7) : outBlk m ρ c (pv c i) = extf .f32 (sent m ρ (pv c i) c) bitsLt_bf16_f32 := by
  unfold outBlk; rw [if_neg (pv_ne c i)]
/-- row block `c` its own product block. -/
theorem outBlk_self (c : Dev nD) : outBlk m ρ c c = mm (scAt m ρ c) (wCol m c c) (hAt m c) := by
  unfold outBlk; rw [if_pos rfl]

section Parts
variable (K : Dev nD × CellIx → ℕ) (c : Dev nD)

/-- The records and the levels, both persistent. -/
abbrev ctx : sProp 𝕄 := iprop(records m ρ K ∗ levAts L lv)
/-- The narrowed rows in place. -/
abbrev hPts : sProp 𝕄 := whole c cc0_scratch1 (hAt m c)
abbrev vBar : Sems sig S_ := SemArray.scalar (sig.barrier 0 rfl)

theorem N_of (M : Memref sig .tc .vmem S512x256 .bf16) : M.view.dmaCredit = N := rfl
theorem NW_of (M : Memref sig .tc .vmem S4096x256 .f32) : M.view.dmaCredit = NW := rfl
/-- A program that returns. -/
theorem step_ret {α : Type} {Q : α → sProp (MT nD τ sig Unit (Elt F) ℕ UU ℕ)} {a : α} (b : α) (h : a = b) : Q b ⊢ WP c (Prog.ret a) Q := by
  subst h
  show Q a ⊢ wp _ _ _ (Prog.ret a) Q
  rw [wp_ret]; exact fupd_intro

/-- What a receive leaves, from its pieces. -/
theorem got_of (i : Fin 7) : iprop(semVal (recvCell c i) 0 ∗ own c (rBlk (pv c i)) (sent m ρ (pv c i) c)
      ∗ own c (oBlk (pv c i)) (extf .f32 (sent m ρ (pv c i) c) bitsLt_bf16_f32)) ⊢ Got m ρ c i := by
  unfold Got; rw [outBlk_pv]

/-- Loading the column block of a weight slot and the narrowed rows: the operands of a product block. -/
theorem step_operands {α : Type} {Q : α → sProp (MT nD τ sig Unit (Elt F) ℕ UU ℕ)} (s : Fin 3) (j : Dev nD) {off : Fin 3 → Nat} {hi} (ho : off = ![s.val, 0, 0]) {hl} {h} {hl'}
    {k : Vec F S1x4096x256 .f32 → Vec F S512x4096 .fp8e4m3 → Prog (TpuEff nD τ sig (Elt F) Λ₀ .tc) α} :
    iprop(loaded m c s j ∗ hPts m c)
      ⊢ iprop((∀ v : Vec F S1x4096x256 .f32, ⌜shapeCast S4096x256 v shapeCasts_S1x4096x256_S4096x256 = wCol m c j⌝
          -∗ (free (F := F) c s ∗ wPts m c j ∗ hPts m c) -∗ WP c (k v (hAt m c)) Q)
        -∗ WP c (.op (.load wM (Rect.unit (s := S3x4096x256) off S1x4096x256.size hi).toLoadRect hl) fun v =>
            .op (.load hM (Rect.unit (s := S512x4096) ![0, 0] S512x4096.size h).toLoadRect hl') (k v)) Q) := by
  unfold loaded
  iintro ⟨⟨⟨Ho, Hw⟩, Hz⟩, Hh⟩ Hk
  iapply (step_slotLoad c s (wCol m c j) ho) $$ Ho
  iintro %v %hv Ho
  iapply (step_hLoad c (hAt m c)) $$ Hh
  iintro Hh
  iapply Hk $$ %v
  · ipureintro; exact hv
  ihave Hf := (loaded_free m c s j) $$ [Ho Hw Hz]
  · unfold loaded
    isplitl [Ho Hw]
    · isplitl [Ho]; · iexact Ho
      iexact Hw
    iexact Hz
  icases Hf with ⟨Hf, Hw⟩
  isplitl [Hf]; · iexact Hf
  isplitl [Hw]; · iexact Hw
  iexact Hh

/-- The scales and the first four signals. -/
theorem part1  (Kt : _ → sProp 𝕄) :
    iprop(ctx m ρ K ∗ ow c (owed c 0 0) ∗ whole c cc0_stg0_0 (sxAt m ρ c) ∗ whole c cc0_stg1_0 (swAt m ρ c) ∗ Sig (F := F) c 0 ∗ Sig (F := F) c 1 ∗ Sig (F := F) c 2 ∗ Sig (F := F) c 3)
      ⊢ iprop(((ow c (owed c 0 4) ∗ whole c cc0_stg0_0 (sxAt m ρ c) ∗ whole c cc0_stg1_0 (swAt m ρ c)) -∗ Kt ⟨c, Scalar.remsi (Scalar.divsi (Dev.word c) 1#32) 8#32, scAt m ρ c, vBar, Scalar.remsi (Scalar.addi (Scalar.remsi (Scalar.divsi (Dev.word c) 1#32) 8#32) 5#32) 8#32, 1#32⟩)
        -∗ WP c (k0_part1 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8) Kt) := by
  rw [k0_part1_eq_skeleton]; unfold k0_part1_skel
  simp only [semSignalWord, semWaitWord, Prog.lift, Prog.bind_op, Prog.bind_ret, Prog.pure_eq_ret, wp_deviceId]
  iintro ⟨⟨#HR, #Hlev⟩, HO, Hs0, Hs1, HS0, HS1, HS2, HS3⟩ Hk
  iapply (step_sxLoad c (sxAt m ρ c)) $$ Hs0; iintro Hs0
  iapply (step_swLoad c (swAt m ρ c)) $$ Hs1; iintro Hs1
  iapply (step_signal m ρ K c 0 0 (dev1 c) (by decide)) $$ [HO HS0]
  · isplitr; · iexact HR
    isplitl [HO]; · iexact HO
    iexact HS0
  iintro HO
  iapply (step_signal m ρ K c 1 0 (dev2 c) (by decide)) $$ [HO HS1]
  · isplitr; · iexact HR
    isplitl [HO]; · iexact HO
    iexact HS1
  iintro HO
  iapply (step_signal m ρ K c 2 0 (dev3 c) (by decide)) $$ [HO HS2]
  · isplitr; · iexact HR
    isplitl [HO]; · iexact HO
    iexact HS2
  iintro HO
  iapply (step_signal m ρ K c 3 0 (dev4 c) (by decide)) $$ [HO HS3]
  · isplitr; · iexact HR
    isplitl [HO]; · iexact HO
    iexact HS3
  iintro HO
  iapply (step_ret c ⟨c, Scalar.remsi (Scalar.divsi (Dev.word c) 1#32) 8#32, scAt m ρ c, vBar, Scalar.remsi (Scalar.addi (Scalar.remsi (Scalar.divsi (Dev.word c) 1#32) 8#32) 5#32) 8#32, 1#32⟩ (by rfl))
  iapply Hk
  isplitl [HO]; · iexact HO
  isplitl [Hs0]; · iexact Hs0
  iexact Hs1

/-- The other three signals; `x` loaded, the first two column blocks under way. -/
theorem part2 (v2 v26 w : BitVec 32) (Kt : _ → sProp 𝕄) :
    iprop(ctx m ρ K ∗ ow c (owed c 0 4) ∗ Sig (F := F) c 4 ∗ Sig (F := F) c 5 ∗ Sig (F := F) c 6 ∗ whole c main_arg0 (xAt m c) ∗ (∃ f, whole (F := F) c cc0_scratch0 f) ∗ semVal ((c : Thread nD τ), .dma xS) 0 ∗ free (F := F) c 0 ∗ wPts m c (nx c 0) ∗ free (F := F) c 1 ∗ wPts m c (nx c 1))
      ⊢ iprop(((ow c (owed c 0 7) ∗ whole c cc0_scratch0 (xAt m c) ∗ whole c main_arg0 (xAt m c) ∗ semVal ((c : Thread nD τ), .dma xS) 0 ∗ loading m c 0 (nx c 0) ∗ loading m c 1 (nx c 1)) -∗ Kt ⟨⟩)
        -∗ WP c (k0_part2 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 vBar v26 w) Kt) := by
  rw [k0_part2_eq_skeleton]; unfold k0_part2_skel
  simp only [semSignalWord, semWaitWord, Prog.lift, Prog.bind_op, Prog.bind_ret, Prog.pure_eq_ret, wp_deviceId]
  iintro ⟨⟨#HR, #Hlev⟩, HO, HS4, HS5, HS6, Hx, Hb, Hzx, H0, HW0, H1, HW1⟩ Hk
  iapply (step_signal m ρ K c 4 0 (dev5 c) (by decide)) $$ [HO HS4]
  · isplitr; · iexact HR
    isplitl [HO]; · iexact HO
    iexact HS4
  iintro HO
  iapply (step_signal m ρ K c 5 0 (dev6 c) (by decide)) $$ [HO HS5]
  · isplitr; · iexact HR
    isplitl [HO]; · iexact HO
    iexact HS5
  iintro HO
  iapply (step_signal m ρ K c 6 0 (dev7 c) (by decide)) $$ [HO HS6]
  · isplitr; · iexact HR
    isplitl [HO]; · iexact HO
    iexact HS6
  iintro HO
  iapply (step_xStart m c) $$ [Hx Hb Hzx]
  · isplitl [Hx]; · iexact Hx
    isplitl [Hb]; · iexact Hb
    iexact Hzx
  iintro Hx
  iapply (step_wStart m c 0 (nx c 0) (wBlk_of _ (off1_0 c)) rfl rfl) $$ [H0 HW0]
  · isplitl [H0]; · iexact H0
    iexact HW0
  iintro H0
  iapply (step_wStart m c 1 (nx c 1) (wBlk_of _ (off1_1 c)) rfl rfl) $$ [H1 HW1]
  · isplitl [H1]; · iexact H1
    iexact HW1
  iintro H1
  iapply (step_xWait m c 0) $$ [Hx HO]
  · isplitr; · iexact Hlev
    isplitl [Hx]; · iexact Hx
    iexact HO
  iintro ⟨Hb, Hx, Hzx, HO⟩
  iapply (step_ret c ⟨⟩ (by rfl))
  iapply Hk
  isplitl [HO]; · iexact HO
  isplitl [Hb]; · iexact Hb
  isplitl [Hx]; · iexact Hx
  isplitl [Hzx]; · iexact Hzx
  isplitl [H0]; · iexact H0
  iexact H1

theorem pay3_eq {sc : F .f32} {v : Vec F S1x4096x256 .f32} {h : Vec F S512x4096 .fp8e4m3} {X : FVec F S4096x256 .f32}
    (hv : shapeCast S4096x256 v shapeCasts_S1x4096x256_S4096x256 = X) : k0_pay3 sc v h = chunk sc X h := by subst hv; rfl
theorem pay5_eq {sc : F .f32} {v : Vec F S1x4096x256 .f32} {h : Vec F S512x4096 .fp8e4m3} {X : FVec F S4096x256 .f32}
    (hv : shapeCast S4096x256 v shapeCasts_S1x4096x256_S4096x256 = X) :
    k0_pay5 sc v h = shapeCast S1x512x256 (chunk sc X h) shapeCasts_S512x256_S1x512x256 := by subst hv; rfl
theorem pay6_eq {sc : F .f32} {v : Vec F S1x4096x256 .f32} {h : Vec F S512x4096 .fp8e4m3} {X : FVec F S4096x256 .f32}
    (hv : shapeCast S4096x256 v shapeCasts_S1x4096x256_S4096x256 = X) :
    k0_pay6 sc v h = shapeCast S1x512x256 (chunk sc X h) shapeCasts_S512x256_S1x512x256 := by subst hv; rfl
theorem pay7_eq {sc : F .f32} {v : Vec F S1x4096x256 .f32} {h : Vec F S512x4096 .fp8e4m3} {X : FVec F S4096x256 .f32}
    (hv : shapeCast S4096x256 v shapeCasts_S1x4096x256_S4096x256 = X) :
    k0_pay7 sc v h = shapeCast S1x512x256 (chunk sc X h) shapeCasts_S512x256_S1x512x256 := by subst hv; rfl
theorem pay10_eq {sc : F .f32} {v : Vec F S1x4096x256 .f32} {h : Vec F S512x4096 .fp8e4m3} {X : FVec F S4096x256 .f32}
    (hv : shapeCast S4096x256 v shapeCasts_S1x4096x256_S4096x256 = X) :
    k0_pay10 sc v h = shapeCast S1x512x256 (chunk sc X h) shapeCasts_S512x256_S1x512x256 := by subst hv; rfl
theorem pay11_eq {sc : F .f32} {v : Vec F S1x4096x256 .f32} {h : Vec F S512x4096 .fp8e4m3} {X : FVec F S4096x256 .f32}
    (hv : shapeCast S4096x256 v shapeCasts_S1x4096x256_S4096x256 = X) :
    k0_pay11 sc v h = shapeCast S1x512x256 (chunk sc X h) shapeCasts_S512x256_S1x512x256 := by subst hv; rfl
theorem pay8_eq {sc : F .f32} {v : Vec F S1x4096x256 .f32} {h : Vec F S512x4096 .fp8e4m3} {X : FVec F S4096x256 .f32}
    (hv : shapeCast S4096x256 v shapeCasts_S1x4096x256_S4096x256 = X) : k0_pay8 sc v h = mm sc X h := by subst hv; rfl
theorem pay12_eq {v : Vec F S1x4096x256 .f32} {X : FVec F S4096x256 .f32}
    (hv : shapeCast S4096x256 v shapeCasts_S1x4096x256_S4096x256 = X) : k0_pay12 v = truncf .fp8e5m2 X bitsLt_fp8e5m2_f32 := by subst hv; rfl

/-- The rows narrowed; the third column block under way; the operands of the first product block, and the block. -/
theorem part3 (v2 : BitVec 32) (f : Vec F S512x4096 .fp8e4m3) (Kt : _ → sProp 𝕄) :
    iprop(ctx m ρ K ∗ ow c (owed c 0 7) ∗ whole c cc0_scratch0 (xAt m c) ∗ whole c cc0_scratch1 f ∗ free (F := F) c 2 ∗ wPts m c (nx c 2) ∗ loading m c 0 (nx c 0))
      ⊢ iprop(((ow c (owed c 0 7) ∗ whole c cc0_scratch0 (xAt m c) ∗ hPts m c ∗ loading m c 2 (nx c 2) ∗ free (F := F) c 0 ∗ wPts m c (nx c 0)) -∗ Kt ⟨Scalar.remsi (Scalar.addi v2 1#32) 8#32, sent m ρ c (nx c 0)⟩)
        -∗ WP c (k0_part3 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 (scAt m ρ c)) Kt) := by
  rw [k0_part3_eq_skeleton]; unfold k0_part3_skel
  simp only [semSignalWord, semWaitWord, Prog.lift, Prog.bind_op, Prog.bind_ret, Prog.pure_eq_ret, wp_deviceId]
  iintro ⟨⟨#HR, #Hlev⟩, HO, Hb, Hh, H2, HW2, H0⟩ Hk
  iapply (step_xLoad c (xAt m c)) $$ Hb; iintro Hb
  iapply (step_hLoad c f) $$ Hh; iintro Hh
  iapply (step_hStore c f (hAt m c)) $$ Hh; iintro Hh
  iapply (step_wStart m c 2 (nx c 2) (wBlk_of _ (off2_0 c)) rfl rfl) $$ [H2 HW2]
  · isplitl [H2]; · iexact H2
    iexact HW2
  iintro H2
  iapply (step_wWait m c 0 (nx c 0) 0 rfl (NW_of _)) $$ [H0 HO]
  · isplitr; · iexact Hlev
    isplitl [H0]; · iexact H0
    iexact HO
  iintro ⟨H0, HO⟩
  iapply (step_operands m c 0 (nx c 0) rfl) $$ [H0 Hh]
  · isplitl [H0]; · iexact H0
    iexact Hh
  iintro %v %hv ⟨H0, HW0, Hh⟩
  rw [pay3_eq hv]
  iapply (step_ret c ⟨Scalar.remsi (Scalar.addi v2 1#32) 8#32, sent m ρ c (nx c 0)⟩ (by rfl))
  iapply Hk
  isplitl [HO]; · iexact HO
  isplitl [Hb]; · iexact Hb
  isplitl [Hh]; · iexact Hh
  isplitl [H2]; · iexact H2
  isplitl [H0]; · iexact H0
  iexact HW0

omit [FloatOps F] in
/-- Seven factors, one by one. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL ([0, 1, 2, 3, 4, 5, 6] : List (Fin 7)) (by decide) (by decide) Φ

/-- The barrier; the first block sent, the fourth column block under way. -/
theorem part4 (v2 v59 : BitVec 32) (Kt : _ → sProp 𝕄) :
    iprop(ctx m ρ K ∗ ow c (owed c 0 7) ∗ Snd (F := F) c 0 ∗ cred (tallyAt (barCell c) () 7) ∗ atPos ER (barCell c) 0 ∅ 0 ∗ free (F := F) c 0 ∗ wPts m c (nx c 3))
      ⊢ iprop(((ow c (owed c 1 7) ∗ semVal (barCell c) 0 ∗ (Lent (F := F) c 1 ∗ Lent (F := F) c 2 ∗ Lent (F := F) c 3 ∗ Lent (F := F) c 4 ∗ Lent (F := F) c 5 ∗ Lent (F := F) c 6) ∗ Crd (F := F) c 0 ∗ loading m c 0 (nx c 3)) -∗ Kt (Scalar.remsi (Scalar.addi v2 2#32) 8#32))
        -∗ WP c (k0_part4 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 vBar v59 (sent m ρ c (nx c 0))) Kt) := by
  rw [k0_part4_eq_skeleton]; unfold k0_part4_skel
  simp only [semSignalWord, semWaitWord, Prog.lift, Prog.bind_op, Prog.bind_ret, Prog.pure_eq_ret, wp_deviceId]
  iintro ⟨⟨#HR, #Hlev⟩, HO, Hs0, HcB, HaB, H0, HW3⟩ Hk
  icases Hs0 with ⟨Hc0, Ha0, Hb0⟩
  iapply (step_slotStore c 0 (sent m ρ c (nx c 0)) rfl rfl) $$ Hc0
  iintro Hc0
  iapply (step_barWait m ρ K c (by decide)) $$ [HcB HO HaB]
  · isplitr; · iexact HR
    isplitr; · iexact Hlev
    isplitl [HcB]; · iexact HcB
    isplitl [HO]; · iexact HO
    iexact HaB
  iintro ⟨HO, HzB, HL⟩
  ihave HL := (Entails.of_eq (bigSep_seven (fun i : Fin 7 => any (F := F) (nx c i) (rBlk c)))) $$ HL
  icases HL with ⟨HL0, HL⟩
  iapply (step_send m ρ K c 0 (dev8 c) rfl (rBlk_of _ (k0_off3_eq c)) rfl rfl) $$ [HO Hc0 HL0 Ha0 Hb0]
  · isplitr; · iexact HR
    isplitl [HO]; · iexact HO
    isplitl [Hc0]; · iexact Hc0
    isplitl [HL0]; · iexact HL0
    isplitl [Ha0]; · iexact Ha0
    iexact Hb0
  iintro ⟨HO, HC0⟩
  iapply (step_wStart m c 0 (nx c 3) (wBlk_of _ (off2_1 c)) rfl rfl) $$ [H0 HW3]
  · isplitl [H0]; · iexact H0
    iexact HW3
  iintro H0
  iapply (step_ret c (Scalar.remsi (Scalar.addi v2 2#32) 8#32) (by rfl))
  iapply Hk
  isplitl [HO]; · iexact HO
  isplitl [HzB]; · iexact HzB
  isplitl [HL]; · iexact HL
  isplitl [HC0]; · iexact HC0
  iexact H0

/-- The second block computed and sent. -/
theorem part5 (v2 v96 : BitVec 32) (Kt : _ → sProp 𝕄) :
    iprop(ctx m ρ K ∗ ow c (owed c 1 7) ∗ hPts m c ∗ loading m c 1 (nx c 1) ∗ Snd (F := F) c 1 ∗ Lent (F := F) c 1)
      ⊢ iprop(((ow c (owed c 2 7) ∗ hPts m c ∗ free (F := F) c 1 ∗ wPts m c (nx c 1) ∗ Crd (F := F) c 1) -∗ Kt (Scalar.remsi (Scalar.addi v2 3#32) 8#32))
        -∗ WP c (k0_part5 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 (scAt m ρ c) v96) Kt) := by
  rw [k0_part5_eq_skeleton]; unfold k0_part5_skel
  simp only [semSignalWord, semWaitWord, Prog.lift, Prog.bind_op, Prog.bind_ret, Prog.pure_eq_ret, wp_deviceId]
  iintro ⟨⟨#HR, #Hlev⟩, HO, Hh, H1, Hs1, HL1⟩ Hk
  iapply (step_wWait m c 1 (nx c 1) 1 rfl (NW_of _)) $$ [H1 HO]
  · isplitr; · iexact Hlev
    isplitl [H1]; · iexact H1
    iexact HO
  iintro ⟨H1, HO⟩
  iapply (step_operands m c 1 (nx c 1) rfl) $$ [H1 Hh]
  · isplitl [H1]; · iexact H1
    iexact Hh
  iintro %v %hv ⟨H1, HW1, Hh⟩
  icases Hs1 with ⟨Hc1, Ha1, Hb1⟩
  iapply (step_slotStore c 1 (sent m ρ c (nx c 1)) rfl (pay5_eq hv)) $$ Hc1
  iintro Hc1
  iapply (step_send m ρ K c 1 (dev9 c) rfl (rBlk_of _ (k0_off3_eq c)) rfl rfl) $$ [HO Hc1 HL1 Ha1 Hb1]
  · isplitr; · iexact HR
    isplitl [HO]; · iexact HO
    isplitl [Hc1]; · iexact Hc1
    isplitl [HL1]; · iexact HL1
    isplitl [Ha1]; · iexact Ha1
    iexact Hb1
  iintro ⟨HO, HC1⟩
  iapply (step_ret c (Scalar.remsi (Scalar.addi v2 3#32) 8#32) (by rfl))
  iapply Hk
  isplitl [HO]; · iexact HO
  isplitl [Hh]; · iexact Hh
  isplitl [H1]; · iexact H1
  isplitl [HW1]; · iexact HW1
  iexact HC1

/-- The fifth column block under way; the third block computed and sent. -/
theorem part6 (v2 v133 : BitVec 32) (Kt : _ → sProp 𝕄) :
    iprop(ctx m ρ K ∗ ow c (owed c 2 7) ∗ hPts m c ∗ free (F := F) c 1 ∗ wPts m c (nx c 4) ∗ loading m c 2 (nx c 2) ∗ Snd (F := F) c 2 ∗ Lent (F := F) c 2)
      ⊢ iprop(((ow c (owed c 3 7) ∗ hPts m c ∗ loading m c 1 (nx c 4) ∗ free (F := F) c 2 ∗ wPts m c (nx c 2) ∗ Crd (F := F) c 2) -∗ Kt (Scalar.addi v2 4#32))
        -∗ WP c (k0_part6 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 (scAt m ρ c) v133) Kt) := by
  rw [k0_part6_eq_skeleton]; unfold k0_part6_skel
  simp only [semSignalWord, semWaitWord, Prog.lift, Prog.bind_op, Prog.bind_ret, Prog.pure_eq_ret, wp_deviceId]
  iintro ⟨⟨#HR, #Hlev⟩, HO, Hh, H1, HW4, H2, Hs2, HL2⟩ Hk
  iapply (step_wStart m c 1 (nx c 4) (wBlk_of _ (off2_2 c)) rfl rfl) $$ [H1 HW4]
  · isplitl [H1]; · iexact H1
    iexact HW4
  iintro H1
  iapply (step_wWait m c 2 (nx c 2) 2 rfl (NW_of _)) $$ [H2 HO]
  · isplitr; · iexact Hlev
    isplitl [H2]; · iexact H2
    iexact HO
  iintro ⟨H2, HO⟩
  iapply (step_operands m c 2 (nx c 2) rfl) $$ [H2 Hh]
  · isplitl [H2]; · iexact H2
    iexact Hh
  iintro %v %hv ⟨H2, HW2, Hh⟩
  icases Hs2 with ⟨Hc2, Ha2, Hb2⟩
  iapply (step_slotStore c 2 (sent m ρ c (nx c 2)) rfl (pay6_eq hv)) $$ Hc2
  iintro Hc2
  iapply (step_send m ρ K c 2 (dev10 c) rfl (rBlk_of _ (k0_off3_eq c)) rfl rfl) $$ [HO Hc2 HL2 Ha2 Hb2]
  · isplitr; · iexact HR
    isplitl [HO]; · iexact HO
    isplitl [Hc2]; · iexact Hc2
    isplitl [HL2]; · iexact HL2
    isplitl [Ha2]; · iexact Ha2
    iexact Hb2
  iintro ⟨HO, HC2⟩
  iapply (step_ret c (Scalar.addi v2 4#32) (by rfl))
  iapply Hk
  isplitl [HO]; · iexact HO
  isplitl [Hh]; · iexact Hh
  isplitl [H1]; · iexact H1
  isplitl [H2]; · iexact H2
  isplitl [HW2]; · iexact HW2
  iexact HC2

/-- The sixth column block under way; the fourth block computed. -/
theorem part7 (v2 v169 : BitVec 32) (Kt : _ → sProp 𝕄) :
    iprop(ctx m ρ K ∗ ow c (owed c 3 7) ∗ hPts m c ∗ free (F := F) c 2 ∗ wPts m c (nx c 5) ∗ loading m c 0 (nx c 3) ∗ any (F := F) c (cSlot 3))
      ⊢ iprop(((ow c (owed c 3 7) ∗ hPts m c ∗ loading m c 2 (nx c 5) ∗ free (F := F) c 0 ∗ wPts m c (nx c 3) ∗ own c (cSlot 3) (sent m ρ c (nx c 3))) -∗ Kt (Scalar.muli (Scalar.remsi v169 8#32) 1#32))
        -∗ WP c (k0_part7 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 (scAt m ρ c) v169) Kt) := by
  rw [k0_part7_eq_skeleton]; unfold k0_part7_skel
  simp only [semSignalWord, semWaitWord, Prog.lift, Prog.bind_op, Prog.bind_ret, Prog.pure_eq_ret, wp_deviceId]
  iintro ⟨⟨#HR, #Hlev⟩, HO, Hh, H2, HW5, H0, Hc3⟩ Hk
  iapply (step_wStart m c 2 (nx c 5) (wBlk_of _ (off2_3 c)) rfl rfl) $$ [H2 HW5]
  · isplitl [H2]; · iexact H2
    iexact HW5
  iintro H2
  iapply (step_wWait m c 0 (nx c 3) 3 rfl (NW_of _)) $$ [H0 HO]
  · isplitr; · iexact Hlev
    isplitl [H0]; · iexact H0
    iexact HO
  iintro ⟨H0, HO⟩
  iapply (step_operands m c 0 (nx c 3) rfl) $$ [H0 Hh]
  · isplitl [H0]; · iexact H0
    iexact Hh
  iintro %v %hv ⟨H0, HW3, Hh⟩
  iapply (step_slotStore c 3 (sent m ρ c (nx c 3)) rfl (pay7_eq hv)) $$ Hc3
  iintro Hc3
  iapply (step_ret c (Scalar.muli (Scalar.remsi v169 8#32) 1#32) (by rfl))
  iapply Hk
  isplitl [HO]; · iexact HO
  isplitl [Hh]; · iexact Hh
  isplitl [H2]; · iexact H2
  isplitl [H0]; · iexact H0
  isplitl [HW3]; · iexact HW3
  iexact Hc3

/-- The fourth block sent; the seventh column block under way; the fifth block computed. -/
theorem part8 (v2 v197 : BitVec 32) (Kt : _ → sProp 𝕄) :
    iprop(ctx m ρ K ∗ ow c (owed c 3 7) ∗ hPts m c ∗ own c (cSlot 3) (sent m ρ c (nx c 3)) ∗ Lent (F := F) c 3 ∗ dutyTok ER (sendCell c 3) 0 0 ∗ dutyTok ER (recvCell (nx c 3) 3) 0 0 ∗ free (F := F) c 0 ∗ wPts m c (nx c 6) ∗ loading m c 1 (nx c 4))
      ⊢ iprop(((ow c (owed c 4 7) ∗ hPts m c ∗ Crd (F := F) c 3 ∗ loading m c 0 (nx c 6) ∗ free (F := F) c 1 ∗ wPts m c (nx c 4)) -∗ Kt ⟨Scalar.remsi (Scalar.addi v2 5#32) 8#32, mm (scAt m ρ c) (wCol m c (nx c 4)) (hAt m c)⟩)
        -∗ WP c (k0_part8 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 (scAt m ρ c) v197) Kt) := by
  rw [k0_part8_eq_skeleton]; unfold k0_part8_skel
  simp only [semSignalWord, semWaitWord, Prog.lift, Prog.bind_op, Prog.bind_ret, Prog.pure_eq_ret, wp_deviceId]
  iintro ⟨⟨#HR, #Hlev⟩, HO, Hh, Hc3, HL3, Ha3, Hb3, H0, HW6, H1⟩ Hk
  iapply (step_send m ρ K c 3 (dev11 c) rfl (rBlk_of _ (k0_off3_eq c)) rfl rfl) $$ [HO Hc3 HL3 Ha3 Hb3]
  · isplitr; · iexact HR
    isplitl [HO]; · iexact HO
    isplitl [Hc3]; · iexact Hc3
    isplitl [HL3]; · iexact HL3
    isplitl [Ha3]; · iexact Ha3
    iexact Hb3
  iintro ⟨HO, HC3⟩
  iapply (step_wStart m c 0 (nx c 6) (wBlk_of _ (off2_4 c)) rfl rfl) $$ [H0 HW6]
  · isplitl [H0]; · iexact H0
    iexact HW6
  iintro H0
  iapply (step_wWait m c 1 (nx c 4) 4 rfl (NW_of _)) $$ [H1 HO]
  · isplitr; · iexact Hlev
    isplitl [H1]; · iexact H1
    iexact HO
  iintro ⟨H1, HO⟩
  iapply (step_operands m c 1 (nx c 4) rfl) $$ [H1 Hh]
  · isplitl [H1]; · iexact H1
    iexact Hh
  iintro %v %hv ⟨H1, HW4, Hh⟩
  rw [pay8_eq hv]
  iapply (step_ret c ⟨Scalar.remsi (Scalar.addi v2 5#32) 8#32, mm (scAt m ρ c) (wCol m c (nx c 4)) (hAt m c)⟩ (by rfl))
  iapply Hk
  isplitl [HO]; · iexact HO
  isplitl [Hh]; · iexact Hh
  isplitl [HC3]; · iexact HC3
  isplitl [H0]; · iexact H0
  isplitl [H1]; · iexact H1
  iexact HW4

/-- The fifth block sent; the device's own column block under way. -/
theorem part9 (v2 v207 : BitVec 32) (Kt : _ → sProp 𝕄) :
    iprop(ctx m ρ K ∗ ow c (owed c 4 7) ∗ Snd (F := F) c 4 ∗ Lent (F := F) c 4 ∗ free (F := F) c 1 ∗ wPts m c c)
      ⊢ iprop(((ow c (owed c 5 7) ∗ Crd (F := F) c 4 ∗ loading m c 1 c) -∗ Kt (Scalar.remsi (Scalar.addi v2 6#32) 8#32))
        -∗ WP c (k0_part9 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 v207 (mm (scAt m ρ c) (wCol m c (nx c 4)) (hAt m c))) Kt) := by
  rw [k0_part9_eq_skeleton]; unfold k0_part9_skel
  simp only [semSignalWord, semWaitWord, Prog.lift, Prog.bind_op, Prog.bind_ret, Prog.pure_eq_ret, wp_deviceId]
  iintro ⟨⟨#HR, #Hlev⟩, HO, Hs4, HL4, H1, HWc⟩ Hk
  icases Hs4 with ⟨Hc4, Ha4, Hb4⟩
  iapply (step_slotStore c 4 (sent m ρ c (nx c 4)) rfl rfl) $$ Hc4
  iintro Hc4
  iapply (step_send m ρ K c 4 (dev12 c) rfl (rBlk_of _ (k0_off3_eq c)) rfl rfl) $$ [HO Hc4 HL4 Ha4 Hb4]
  · isplitr; · iexact HR
    isplitl [HO]; · iexact HO
    isplitl [Hc4]; · iexact Hc4
    isplitl [HL4]; · iexact HL4
    isplitl [Ha4]; · iexact Ha4
    iexact Hb4
  iintro ⟨HO, HC4⟩
  iapply (step_wStart m c 1 c (wBlk_of _ (off2_5 c)) rfl rfl) $$ [H1 HWc]
  · isplitl [H1]; · iexact H1
    iexact HWc
  iintro H1
  iapply (step_ret c (Scalar.remsi (Scalar.addi v2 6#32) 8#32) (by rfl))
  iapply Hk
  isplitl [HO]; · iexact HO
  isplitl [HC4]; · iexact HC4
  iexact H1

/-- The sixth block computed and sent; the seventh column block in place. -/
theorem part10 (v2 v244 : BitVec 32) (Kt : _ → sProp 𝕄) :
    iprop(ctx m ρ K ∗ ow c (owed c 5 7) ∗ hPts m c ∗ loading m c 2 (nx c 5) ∗ Snd (F := F) c 5 ∗ Lent (F := F) c 5 ∗ loading m c 0 (nx c 6))
      ⊢ iprop(((ow c (owed c 6 7) ∗ hPts m c ∗ free (F := F) c 2 ∗ wPts m c (nx c 5) ∗ Crd (F := F) c 5 ∗ loaded m c 0 (nx c 6)) -∗ Kt (Scalar.remsi (Scalar.addi v2 7#32) 8#32))
        -∗ WP c (k0_part10 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 (scAt m ρ c) v244) Kt) := by
  rw [k0_part10_eq_skeleton]; unfold k0_part10_skel
  simp only [semSignalWord, semWaitWord, Prog.lift, Prog.bind_op, Prog.bind_ret, Prog.pure_eq_ret, wp_deviceId]
  iintro ⟨⟨#HR, #Hlev⟩, HO, Hh, H2, Hs5, HL5, H0⟩ Hk
  iapply (step_wWait m c 2 (nx c 5) 5 rfl (NW_of _)) $$ [H2 HO]
  · isplitr; · iexact Hlev
    isplitl [H2]; · iexact H2
    iexact HO
  iintro ⟨H2, HO⟩
  iapply (step_operands m c 2 (nx c 5) rfl) $$ [H2 Hh]
  · isplitl [H2]; · iexact H2
    iexact Hh
  iintro %v %hv ⟨H2, HW5, Hh⟩
  icases Hs5 with ⟨Hc5, Ha5, Hb5⟩
  iapply (step_slotStore c 5 (sent m ρ c (nx c 5)) rfl (pay10_eq hv)) $$ Hc5
  iintro Hc5
  iapply (step_send m ρ K c 5 (dev13 c) rfl (rBlk_of _ (k0_off3_eq c)) rfl rfl) $$ [HO Hc5 HL5 Ha5 Hb5]
  · isplitr; · iexact HR
    isplitl [HO]; · iexact HO
    isplitl [Hc5]; · iexact Hc5
    isplitl [HL5]; · iexact HL5
    isplitl [Ha5]; · iexact Ha5
    iexact Hb5
  iintro ⟨HO, HC5⟩
  iapply (step_wWait m c 0 (nx c 6) 6 rfl (NW_of _)) $$ [H0 HO]
  · isplitr; · iexact Hlev
    isplitl [H0]; · iexact H0
    iexact HO
  iintro ⟨H0, HO⟩
  iapply (step_ret c (Scalar.remsi (Scalar.addi v2 7#32) 8#32) (by rfl))
  iapply Hk
  isplitl [HO]; · iexact HO
  isplitl [Hh]; · iexact Hh
  isplitl [H2]; · iexact H2
  isplitl [HW5]; · iexact HW5
  isplitl [HC5]; · iexact HC5
  iexact H0

/-- The seventh block computed and sent; the operands of the device's own block. -/
theorem part11 (v2 v281 : BitVec 32) (Kt : _ → sProp 𝕄) :
    iprop(ctx m ρ K ∗ ow c (owed c 6 7) ∗ hPts m c ∗ loaded m c 0 (nx c 6) ∗ Snd (F := F) c 6 ∗ Lent (F := F) c 6 ∗ loading m c 1 c)
      ⊢ iprop(((ow c (owed c 7 7) ∗ hPts m c ∗ free (F := F) c 0 ∗ wPts m c (nx c 6) ∗ Crd (F := F) c 6 ∗ free (F := F) c 1 ∗ wPts m c c) -∗ Kt ⟨truncf .fp8e5m2 (wCol m c c) bitsLt_fp8e5m2_f32, hAt m c, constant S512x256 .f32 0x00000000#32⟩)
        -∗ WP c (k0_part11 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 (scAt m ρ c) v281) Kt) := by
  rw [k0_part11_eq_skeleton]; unfold k0_part11_skel
  simp only [semSignalWord, semWaitWord, Prog.lift, Prog.bind_op, Prog.bind_ret, Prog.pure_eq_ret, wp_deviceId]
  iintro ⟨⟨#HR, #Hlev⟩, HO, Hh, H0, Hs6, HL6, H1⟩ Hk
  iapply (step_operands m c 0 (nx c 6) rfl) $$ [H0 Hh]
  · isplitl [H0]; · iexact H0
    iexact Hh
  iintro %v %hv ⟨H0, HW6, Hh⟩
  icases Hs6 with ⟨Hc6, Ha6, Hb6⟩
  iapply (step_slotStore c 6 (sent m ρ c (nx c 6)) rfl (pay11_eq hv)) $$ Hc6
  iintro Hc6
  iapply (step_send m ρ K c 6 (dev14 c) rfl (rBlk_of _ (k0_off3_eq c)) rfl rfl) $$ [HO Hc6 HL6 Ha6 Hb6]
  · isplitr; · iexact HR
    isplitl [HO]; · iexact HO
    isplitl [Hc6]; · iexact Hc6
    isplitl [HL6]; · iexact HL6
    isplitl [Ha6]; · iexact Ha6
    iexact Hb6
  iintro ⟨HO, HC6⟩
  iapply (step_wWait m c 1 c 7 rfl (NW_of _)) $$ [H1 HO]
  · isplitr; · iexact Hlev
    isplitl [H1]; · iexact H1
    iexact HO
  iintro ⟨H1, HO⟩
  iapply (step_operands m c 1 c rfl) $$ [H1 Hh]
  · isplitl [H1]; · iexact H1
    iexact Hh
  iintro %u %hu ⟨H1, HWc, Hh⟩
  rw [pay12_eq hu]
  iapply (step_ret c ⟨truncf .fp8e5m2 (wCol m c c) bitsLt_fp8e5m2_f32, hAt m c, constant S512x256 .f32 0x00000000#32⟩ (by rfl))
  iapply Hk
  isplitl [HO]; · iexact HO
  isplitl [Hh]; · iexact Hh
  isplitl [H0]; · iexact H0
  isplitl [HW6]; · iexact HW6
  isplitl [HC6]; · iexact HC6
  isplitl [H1]; · iexact H1
  iexact HWc

/-- The device's own row block of the result; the first receive. -/
theorem part12 (v2 : BitVec 32) (Kt : _ → sProp 𝕄) :
    iprop(ctx m ρ K ∗ ow c 0 ∗ any (F := F) c (oBlk c) ∗ Rcv (F := F) c 0)
      ⊢ iprop(((ow c 0 ∗ own c (oBlk c) (outBlk m ρ c c) ∗ Got m ρ c 0) -∗ Kt (Scalar.remsi (Scalar.addi (Scalar.subi v2 2#32) 8#32) 8#32))
        -∗ WP c (k0_part12 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 (scAt m ρ c) (truncf .fp8e5m2 (wCol m c c) bitsLt_fp8e5m2_f32) (hAt m c) (constant S512x256 .f32 0x00000000#32)) Kt) := by
  rw [k0_part12_eq_skeleton]; unfold k0_part12_skel
  simp only [semSignalWord, semWaitWord, Prog.lift, Prog.bind_op, Prog.bind_ret, Prog.pure_eq_ret, wp_deviceId]
  iintro ⟨⟨#HR, #Hlev⟩, HO, Hqc, HV0⟩ Hk
  iapply (step_rowStore c c (k0_off4_eq c)) $$ Hqc
  iintro Hqc
  icases HV0 with ⟨Hv0, Hp0, Hq0⟩
  iapply (step_recvWait m ρ K c 0 rfl (N_of _)) $$ [HO Hv0 Hp0]
  · isplitr; · iexact HR
    isplitl [HO]; · iexact HO
    isplitl [Hv0]; · iexact Hv0
    iexact Hp0
  iintro ⟨HO, Hz0, Hr0⟩
  iapply (step_rowLoad c (pv c 0) _ (off6_0 c)) $$ Hr0
  iintro Hr0
  iapply (step_rowStore c (pv c 0) (off6_0 c)) $$ Hq0
  iintro Hq0
  iapply (step_ret c (Scalar.remsi (Scalar.addi (Scalar.subi v2 2#32) 8#32) 8#32) (by rfl))
  iapply Hk
  isplitl [HO]; · iexact HO
  isplitl [Hqc]
  · rw [outBlk_self]; iexact Hqc
  iapply (got_of m ρ c 0); isplitl [Hz0]; · iexact Hz0
  isplitl [Hr0]; · iexact Hr0
  iexact Hq0

/-- The second and the third receive. -/
theorem part13 (v2 v343 : BitVec 32) (Kt : _ → sProp 𝕄) :
    iprop(ctx m ρ K ∗ ow c 0 ∗ Rcv (F := F) c 1 ∗ Rcv (F := F) c 2)
      ⊢ iprop(((ow c 0 ∗ Got m ρ c 1 ∗ Got m ρ c 2) -∗ Kt ⟨Scalar.subi v2 4#32, 8#32⟩)
        -∗ WP c (k0_part13 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 v343) Kt) := by
  rw [k0_part13_eq_skeleton]; unfold k0_part13_skel
  simp only [semSignalWord, semWaitWord, Prog.lift, Prog.bind_op, Prog.bind_ret, Prog.pure_eq_ret, wp_deviceId]
  iintro ⟨⟨#HR, #Hlev⟩, HO, HV1, HV2⟩ Hk
  icases HV1 with ⟨Hv1, Hp1, Hq1⟩
  iapply (step_recvWait m ρ K c 1 rfl (N_of _)) $$ [HO Hv1 Hp1]
  · isplitr; · iexact HR
    isplitl [HO]; · iexact HO
    isplitl [Hv1]; · iexact Hv1
    iexact Hp1
  iintro ⟨HO, Hz1, Hr1⟩
  iapply (step_rowLoad c (pv c 1) _ (off6_1 c)) $$ Hr1
  iintro Hr1
  iapply (step_rowStore c (pv c 1) (off6_1 c)) $$ Hq1
  iintro Hq1
  icases HV2 with ⟨Hv2, Hp2, Hq2⟩
  iapply (step_recvWait m ρ K c 2 rfl (N_of _)) $$ [HO Hv2 Hp2]
  · isplitr; · iexact HR
    isplitl [HO]; · iexact HO
    isplitl [Hv2]; · iexact Hv2
    iexact Hp2
  iintro ⟨HO, Hz2, Hr2⟩
  iapply (step_rowLoad c (pv c 2) _ (off6_2 c)) $$ Hr2
  iintro Hr2
  iapply (step_rowStore c (pv c 2) (off6_2 c)) $$ Hq2
  iintro Hq2
  iapply (step_ret c ⟨Scalar.subi v2 4#32, 8#32⟩ (by rfl))
  iapply Hk
  isplitl [HO]; · iexact HO
  isplitl [Hz1 Hr1 Hq1]
  · iapply (got_of m ρ c 1); isplitl [Hz1]; · iexact Hz1
    isplitl [Hr1]; · iexact Hr1
    iexact Hq1
  iapply (got_of m ρ c 2); isplitl [Hz2]; · iexact Hz2
  isplitl [Hr2]; · iexact Hr2
  iexact Hq2

/-- The fourth receive, and the wait of the fifth. -/
theorem part14 (v2 v377 w : BitVec 32) (Kt : _ → sProp 𝕄) :
    iprop(ctx m ρ K ∗ ow c 0 ∗ Rcv (F := F) c 3 ∗ cred (tallyAt (recvCell c 4) () N) ∗ atPos ER (recvCell c 4) 0 ∅ 0)
      ⊢ iprop(((ow c 0 ∗ Got m ρ c 3 ∗ semVal (recvCell c 4) 0 ∗ own c (rBlk (pv c 4)) (sent m ρ (pv c 4) c)) -∗ Kt (Scalar.remsi (Scalar.addi (Scalar.subi v2 5#32) 8#32) 8#32))
        -∗ WP c (k0_part14 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 v377 w) Kt) := by
  rw [k0_part14_eq_skeleton]; unfold k0_part14_skel
  simp only [semSignalWord, semWaitWord, Prog.lift, Prog.bind_op, Prog.bind_ret, Prog.pure_eq_ret, wp_deviceId]
  iintro ⟨⟨#HR, #Hlev⟩, HO, HV3, HV4⟩ Hk
  icases HV3 with ⟨Hv3, Hp3, Hq3⟩
  iapply (step_recvWait m ρ K c 3 rfl (N_of _)) $$ [HO Hv3 Hp3]
  · isplitr; · iexact HR
    isplitl [HO]; · iexact HO
    isplitl [Hv3]; · iexact Hv3
    iexact Hp3
  iintro ⟨HO, Hz3, Hr3⟩
  iapply (step_rowLoad c (pv c 3) _ (off6_3 c)) $$ Hr3
  iintro Hr3
  iapply (step_rowStore c (pv c 3) (off6_3 c)) $$ Hq3
  iintro Hq3
  icases HV4 with ⟨Hv4, Hp4⟩
  iapply (step_recvWait m ρ K c 4 rfl (N_of _)) $$ [HO Hv4 Hp4]
  · isplitr; · iexact HR
    isplitl [HO]; · iexact HO
    isplitl [Hv4]; · iexact Hv4
    iexact Hp4
  iintro ⟨HO, Hz4, Hr4⟩
  iapply (step_ret c (Scalar.remsi (Scalar.addi (Scalar.subi v2 5#32) 8#32) 8#32) (by rfl))
  iapply Hk
  isplitl [HO]; · iexact HO
  isplitl [Hz3 Hr3 Hq3]
  · iapply (got_of m ρ c 3); isplitl [Hz3]; · iexact Hz3
    isplitl [Hr3]; · iexact Hr3
    iexact Hq3
  isplitl [Hz4]
  · iexact Hz4
  iexact Hr4

/-- The fifth receive's rows, and the sixth receive. -/
theorem part15 (v2 v397 : BitVec 32) (Kt : _ → sProp 𝕄) :
    iprop(ctx m ρ K ∗ ow c 0 ∗ own c (rBlk (pv c 4)) (sent m ρ (pv c 4) c) ∗ any (F := F) c (oBlk (pv c 4)) ∗ Rcv (F := F) c 5)
      ⊢ iprop(((ow c 0 ∗ own c (rBlk (pv c 4)) (sent m ρ (pv c 4) c) ∗ own c (oBlk (pv c 4)) (outBlk m ρ c (pv c 4)) ∗ Got m ρ c 5) -∗ Kt (Scalar.remsi (Scalar.addi (Scalar.subi v2 7#32) 8#32) 8#32))
        -∗ WP c (k0_part15 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v2 v397) Kt) := by
  rw [k0_part15_eq_skeleton]; unfold k0_part15_skel
  simp only [semSignalWord, semWaitWord, Prog.lift, Prog.bind_op, Prog.bind_ret, Prog.pure_eq_ret, wp_deviceId]
  iintro ⟨⟨#HR, #Hlev⟩, HO, Hr4, Hq4, HV5⟩ Hk
  iapply (step_rowLoad c (pv c 4) _ (off6_4 c)) $$ Hr4
  iintro Hr4
  iapply (step_rowStore c (pv c 4) (off6_4 c)) $$ Hq4
  iintro Hq4
  icases HV5 with ⟨Hv5, Hp5, Hq5⟩
  iapply (step_recvWait m ρ K c 5 rfl (N_of _)) $$ [HO Hv5 Hp5]
  · isplitr; · iexact HR
    isplitl [HO]; · iexact HO
    isplitl [Hv5]; · iexact Hv5
    iexact Hp5
  iintro ⟨HO, Hz5, Hr5⟩
  iapply (step_rowLoad c (pv c 5) _ (off6_5 c)) $$ Hr5
  iintro Hr5
  iapply (step_rowStore c (pv c 5) (off6_5 c)) $$ Hq5
  iintro Hq5
  iapply (step_ret c (Scalar.remsi (Scalar.addi (Scalar.subi v2 7#32) 8#32) 8#32) (by rfl))
  iapply Hk
  isplitl [HO]; · iexact HO
  isplitl [Hr4]
  · iexact Hr4
  isplitl [Hq4]
  · rw [outBlk_pv]; iexact Hq4
  iapply (got_of m ρ c 5); isplitl [Hz5]; · iexact Hz5
  isplitl [Hr5]; · iexact Hr5
  iexact Hq5

/-- The seventh receive; the first three transfers sent. -/
theorem part16 (v433 : BitVec 32) (Kt : _ → sProp 𝕄) :
    iprop(ctx m ρ K ∗ ow c 0 ∗ Rcv (F := F) c 6 ∗ Wt (F := F) c 0 ∗ Wt (F := F) c 1 ∗ Wt (F := F) c 2)
      ⊢ iprop(((ow c 0 ∗ Got m ρ c 6 ∗ Don (F := F) c 0 ∗ Don (F := F) c 1 ∗ Don (F := F) c 2) -∗ Kt ⟨⟩)
        -∗ WP c (k0_part16 (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8 c v433) Kt) := by
  rw [k0_part16_eq_skeleton]; unfold k0_part16_skel
  simp only [semSignalWord, semWaitWord, Prog.lift, Prog.bind_op, Prog.bind_ret, Prog.pure_eq_ret, wp_deviceId]
  iintro ⟨⟨#HR, #Hlev⟩, HO, HV6, HW0, HW1, HW2⟩ Hk
  icases HV6 with ⟨Hv6, Hp6, Hq6⟩
  iapply (step_recvWait m ρ K c 6 rfl (N_of _)) $$ [HO Hv6 Hp6]
  · isplitr; · iexact HR
    isplitl [HO]; · iexact HO
    isplitl [Hv6]; · iexact Hv6
    iexact Hp6
  iintro ⟨HO, Hz6, Hr6⟩
  iapply (step_rowLoad c (pv c 6) _ (off6_6 c)) $$ Hr6
  iintro Hr6
  iapply (step_rowStore c (pv c 6) (off6_6 c)) $$ Hq6
  iintro Hq6
  iapply (step_sendWait m ρ K c 0 rfl (N_of _)) $$ [HO HW0]
  · isplitr; · iexact HR
    isplitl [HO]; · iexact HO
    iexact HW0
  iintro ⟨HO, HD0⟩
  iapply (step_sendWait m ρ K c 1 rfl (N_of _)) $$ [HO HW1]
  · isplitr; · iexact HR
    isplitl [HO]; · iexact HO
    iexact HW1
  iintro ⟨HO, HD1⟩
  iapply (step_sendWait m ρ K c 2 rfl (N_of _)) $$ [HO HW2]
  · isplitr; · iexact HR
    isplitl [HO]; · iexact HO
    iexact HW2
  iintro ⟨HO, HD2⟩
  iapply (step_ret c ⟨⟩ (by rfl))
  iapply Hk
  isplitl [HO]; · iexact HO
  isplitl [Hz6 Hr6 Hq6]
  · iapply (got_of m ρ c 6); isplitl [Hz6]; · iexact Hz6
    isplitl [Hr6]; · iexact Hr6
    iexact Hq6
  isplitl [HD0]
  · iexact HD0
  isplitl [HD1]
  · iexact HD1
  iexact HD2

end Parts

end Cert.Run

end
-- ==== Proof.Split.lean ====
/-
# Cutting whole buffers into the kernel's blocks, and joining them
-/
module

public import proofs.«01_k».proof.Proof.Parts
public import Idealize.ShloMosaic.Lib.Ring

@[expose] public section

set_option maxRecDepth 16384

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The blocks are disjoint and cover -/

theorem row_set (j : Dev nD) : (rBlk j).view.set = (row j).set := View.set_slice_whole _ _
theorem orow_set (j : Dev nD) : (oBlk j).view.set = (row j).set := View.set_slice_whole _ _
theorem col_set (j : Dev nD) : (wBlk j).view.set = (col j).set := View.set_slice_whole _ _
theorem cslot_set (i : Fin 7) : (cSlot i).view.set = (cRect i).set := (View.set_reshape _ _).trans (View.set_slice_whole _ _)
theorem wslot_set (s : Fin 3) : (wSlot s).view.set = (wRect s).set := (View.set_reshape _ _).trans (View.set_slice_whole _ _)

theorem row_disj (j j' : Dev nD) (h : j ≠ j') : Disjoint (row j).set (row j').set := by
  refine Finset.disjoint_left.mpr fun x hx hx' => h (Fin.ext ?_)
  have h1 := Rect.mem_set_unit.mp hx 0
  have h2 := Rect.mem_set_unit.mp hx' 0
  change 512 * j.val ≤ (x 0).val ∧ (x 0).val < 512 * j.val + 512 at h1
  change 512 * j'.val ≤ (x 0).val ∧ (x 0).val < 512 * j'.val + 512 at h2
  omega
theorem row_mem (x : S4096x256.Idx) : ∃ j : Dev nD, x ∈ (row j).set := by
  have h0 : (x 0).val < 4096 := (x 0).isLt
  have h1 : (x 1).val < 256 := (x 1).isLt
  refine ⟨⟨(x 0).val / 512, by show _ < 8; omega⟩, Rect.mem_set_unit.mpr fun a => ?_⟩
  fin_cases a
  · show 512 * ((x 0).val / 512) ≤ (x 0).val ∧ (x 0).val < 512 * ((x 0).val / 512) + 512; omega
  · show 0 ≤ (x 1).val ∧ (x 1).val < 0 + 256; omega
theorem row_cover : Finset.univ.biUnion (fun j : Dev nD => (row j).set) = Finset.univ :=
  Finset.eq_univ_iff_forall.mpr fun x => by
    obtain ⟨j, hj⟩ := row_mem x
    exact Finset.mem_biUnion.mpr ⟨j, Finset.mem_univ _, hj⟩

theorem col_disj (j j' : Dev nD) (h : j ≠ j') : Disjoint (col j).set (col j').set := by
  refine Finset.disjoint_left.mpr fun x hx hx' => h (Fin.ext ?_)
  have h1 := Rect.mem_set_unit.mp hx 1
  have h2 := Rect.mem_set_unit.mp hx' 1
  change 256 * j.val ≤ (x 1).val ∧ (x 1).val < 256 * j.val + 256 at h1
  change 256 * j'.val ≤ (x 1).val ∧ (x 1).val < 256 * j'.val + 256 at h2
  omega
theorem col_cover : Finset.univ.biUnion (fun j : Dev nD => (col j).set) = Finset.univ :=
  Finset.eq_univ_iff_forall.mpr fun x => by
    have h0 : (x 0).val < 4096 := (x 0).isLt
    have h1 : (x 1).val < 2048 := (x 1).isLt
    refine Finset.mem_biUnion.mpr ⟨⟨(x 1).val / 256, by show _ < 8; omega⟩, Finset.mem_univ _, Rect.mem_set_unit.mpr fun a => ?_⟩
    fin_cases a
    · show 0 ≤ (x 0).val ∧ (x 0).val < 0 + 4096; omega
    · show 256 * ((x 1).val / 256) ≤ (x 1).val ∧ (x 1).val < 256 * ((x 1).val / 256) + 256; omega

theorem cslot_disj (j j' : Fin 7) (h : j ≠ j') : Disjoint (cRect j).set (cRect j').set := by
  refine Finset.disjoint_left.mpr fun x hx hx' => h (Fin.ext ?_)
  have h1 := Rect.mem_set_unit.mp hx 0
  have h2 := Rect.mem_set_unit.mp hx' 0
  change j.val ≤ (x 0).val ∧ (x 0).val < j.val + 1 at h1
  change j'.val ≤ (x 0).val ∧ (x 0).val < j'.val + 1 at h2
  omega
theorem cslot_cover : Finset.univ.biUnion (fun j : Fin 7 => (cRect j).set) = Finset.univ :=
  Finset.eq_univ_iff_forall.mpr fun x => by
    have h0 : (x 0).val < 7 := (x 0).isLt
    have h1 : (x 1).val < 512 := (x 1).isLt
    have h2 : (x 2).val < 256 := (x 2).isLt
    refine Finset.mem_biUnion.mpr ⟨⟨(x 0).val, h0⟩, Finset.mem_univ _, Rect.mem_set_unit.mpr fun a => ?_⟩
    fin_cases a
    · show (x 0).val ≤ (x 0).val ∧ (x 0).val < (x 0).val + 1; omega
    · show 0 ≤ (x 1).val ∧ (x 1).val < 0 + 512; omega
    · show 0 ≤ (x 2).val ∧ (x 2).val < 0 + 256; omega

theorem wslot_disj (j j' : Fin 3) (h : j ≠ j') : Disjoint (wRect j).set (wRect j').set := by
  refine Finset.disjoint_left.mpr fun x hx hx' => h (Fin.ext ?_)
  have h1 := Rect.mem_set_unit.mp hx 0
  have h2 := Rect.mem_set_unit.mp hx' 0
  change j.val ≤ (x 0).val ∧ (x 0).val < j.val + 1 at h1
  change j'.val ≤ (x 0).val ∧ (x 0).val < j'.val + 1 at h2
  omega
theorem wslot_cover : Finset.univ.biUnion (fun j : Fin 3 => (wRect j).set) = Finset.univ :=
  Finset.eq_univ_iff_forall.mpr fun x => by
    have h0 : (x 0).val < 3 := (x 0).isLt
    have h1 : (x 1).val < 4096 := (x 1).isLt
    have h2 : (x 2).val < 256 := (x 2).isLt
    refine Finset.mem_biUnion.mpr ⟨⟨(x 0).val, h0⟩, Finset.mem_univ _, Rect.mem_set_unit.mpr fun a => ?_⟩
    fin_cases a
    · show (x 0).val ≤ (x 0).val ∧ (x 0).val < (x 0).val + 1; omega
    · show 0 ≤ (x 1).val ∧ (x 1).val < 0 + 4096; omega
    · show 0 ≤ (x 2).val ∧ (x 2).val < 0 + 256; omega

/-! ## Splitting and joining -/

section Split
variable (c : Dev nD)

omit [FloatOps F] in
/-- A whole buffer at some contents is its blocks, each at some; -/
theorem any_split {ℓ : Loc nD τ sig} {T : Type} [Fintype T] [DecidableEq T] (I : T → Finset (Idx ℓ))
    (hd : ∀ t t', t ≠ t' → Disjoint (I t) (I t')) (hc : Finset.univ.biUnion I = Finset.univ) :
    (iprop(∃ f : Buf (Elt F) ℓ, ℓ ↦{fullShare} f) : sProp 𝕄) ⊢ bigSep Finset.univ fun t => iprop(∃ f, ℓ ↦[I t]{fullShare} f) := by
  have h (f : Buf (Elt F) ℓ) : (ℓ ↦{fullShare} f : sProp 𝕄) ⊢ bigSep Finset.univ fun t => iprop(∃ f, ℓ ↦[I t]{fullShare} f) :=
    (Entails.of_eq (Ring.pointsTo_sub_blocks I hd Finset.univ hc f)).trans
      (bigSep_mono fun t _ => (show (ℓ ↦[I t]{fullShare} f : sProp 𝕄) ⊢ iprop(∃ f, ℓ ↦[I t]{fullShare} f) from by iintro H; iexists f; iexact H))
  iintro ⟨%f, H⟩
  iapply (h f); iexact H

omit [FloatOps F] in
/-- and back. -/
theorem any_join {ℓ : Loc nD τ sig} {T : Type} [Fintype T] [DecidableEq T] (t₀ : T) (I : T → Finset (Idx ℓ))
    (hd : ∀ t t', t ≠ t' → Disjoint (I t) (I t')) (hc : Finset.univ.biUnion I = Finset.univ) :
    (bigSep Finset.univ fun t => iprop(∃ f, ℓ ↦[I t]{fullShare} f)) ⊢ (iprop(∃ f : Buf (Elt F) ℓ, ℓ ↦{fullShare} f) : sProp 𝕄) := by
  rw [bigSep_univ_at _ t₀]
  iintro ⟨⟨%f, H⟩, Hr⟩
  iapply (Ring.pointsTo_sub_blocks_join_exists I hd Finset.univ hc f)
  rw [bigSep_univ_at _ t₀]
  isplitl [H]
  · iexists f; iexact H
  iexact Hr

theorem sets_disj {X T : Type} [DecidableEq X] {I J : T → Finset X} (h : ∀ t, I t = J t) (hd : ∀ t t', t ≠ t' → Disjoint (J t) (J t')) :
    ∀ t t', t ≠ t' → Disjoint (I t) (I t') := fun t t' hn => by rw [h, h]; exact hd t t' hn
theorem sets_cover {X T : Type} [DecidableEq X] [Fintype X] [Fintype T] {I J : T → Finset X} (h : ∀ t, I t = J t)
    (hc : Finset.univ.biUnion J = Finset.univ) : Finset.univ.biUnion I = Finset.univ := by
  rw [show I = J from funext h]; exact hc

/-- The receive buffer by rows of each device, -/
theorem recv_split : (iprop(∃ f, whole (F := F) c cc0_scratch4 f) : sProp 𝕄) ⊢ bigSep Finset.univ fun j : Dev nD => any c (rBlk j) :=
  any_split (ℓ := (c : Thread nD τ).loc cc0_scratch4) (fun j : Dev nD => (rBlk j).view.set) (sets_disj row_set row_disj) (sets_cover row_set row_cover)
theorem recv_join : (bigSep Finset.univ fun j : Dev nD => any c (rBlk j)) ⊢ (iprop(∃ f, whole (F := F) c cc0_scratch4 f) : sProp 𝕄) :=
  any_join (ℓ := (c : Thread nD τ).loc cc0_scratch4) (0 : Dev nD) (fun j : Dev nD => (rBlk j).view.set) (sets_disj row_set row_disj) (sets_cover row_set row_cover)
/-- the communication buffer by slots, -/
theorem comm_split : (iprop(∃ f, whole (F := F) c cc0_scratch3 f) : sProp 𝕄) ⊢ bigSep Finset.univ fun i : Fin 7 => any c (cSlot i) :=
  any_split (ℓ := (c : Thread nD τ).loc cc0_scratch3) (fun i : Fin 7 => (cSlot i).view.set) (sets_disj cslot_set cslot_disj) (sets_cover cslot_set cslot_cover)
theorem comm_join : (bigSep Finset.univ fun i : Fin 7 => any c (cSlot i)) ⊢ (iprop(∃ f, whole (F := F) c cc0_scratch3 f) : sProp 𝕄) :=
  any_join (ℓ := (c : Thread nD τ).loc cc0_scratch3) (0 : Fin 7) (fun i : Fin 7 => (cSlot i).view.set) (sets_disj cslot_set cslot_disj) (sets_cover cslot_set cslot_cover)
/-- the weight buffer by slots, -/
theorem wbuf_split : (iprop(∃ f, whole (F := F) c cc0_scratch2 f) : sProp 𝕄) ⊢ bigSep Finset.univ fun s : Fin 3 => any c (wSlot s) :=
  any_split (ℓ := (c : Thread nD τ).loc cc0_scratch2) (fun s : Fin 3 => (wSlot s).view.set) (sets_disj wslot_set wslot_disj) (sets_cover wslot_set wslot_cover)
theorem wbuf_join : (bigSep Finset.univ fun s : Fin 3 => any c (wSlot s)) ⊢ (iprop(∃ f, whole (F := F) c cc0_scratch2 f) : sProp 𝕄) :=
  any_join (ℓ := (c : Thread nD τ).loc cc0_scratch2) (0 : Fin 3) (fun s : Fin 3 => (wSlot s).view.set) (sets_disj wslot_set wslot_disj) (sets_cover wslot_set wslot_cover)
/-- the output's staging buffer by rows, -/
theorem out_split : (iprop(∃ f, whole (F := F) c cc0_stg2_0 f) : sProp 𝕄) ⊢ bigSep Finset.univ fun j : Dev nD => any c (oBlk j) :=
  any_split (ℓ := (c : Thread nD τ).loc cc0_stg2_0) (fun j : Dev nD => (oBlk j).view.set) (sets_disj orow_set row_disj) (sets_cover orow_set row_cover)
/-- the weights by column blocks. -/
theorem w_blocks : (whole c main_arg1 (wAt m c) : sProp 𝕄) = bigSep Finset.univ fun j : Dev nD => wPts m c j :=
  Ring.pointsTo_sub_blocks (ℓ := (c : Thread nD τ).loc main_arg1) (fun j : Dev nD => (wBlk j).view.set) (sets_disj col_set col_disj) Finset.univ
    (sets_cover col_set col_cover) (wAt m c)

/-- Device `c`'s result: row block `j` is `outBlk m ρ c j`. -/
def outAt : (cc0_stg2_0 : Ref sig .tc).ty.Contents (Elt F) := Rect.glue row row_cover (outBlk m ρ c)
theorem outAt_emb (j : Dev nD) (y : S512x256.Idx) : outAt m ρ c ((row j).emb y) = outBlk m ρ c j y :=
  Rect.glue_emb row row_cover row_disj (outBlk m ρ c) j y

theorem own_out (j : Dev nD) : own c (oBlk j) (outBlk m ρ c j)
    ⊢ ((c : Thread nD τ).loc cc0_stg2_0 ↦[(oBlk j).view.set]{fullShare} (outAt m ρ c) : sProp 𝕄) := by
  unfold own owns
  iintro ⟨%f, %hf, H⟩
  iapply (Entails.of_eq (pointsTo_congr (ℓ := (c : Thread nD τ).loc cc0_stg2_0) (I := (oBlk j).view.set) (q := fullShare) (f := f) (g := outAt m ρ c) (fun i hi => by
    obtain ⟨y, -, rfl⟩ := Finset.mem_map.mp hi
    exact (congrFun hf y).trans (outAt_emb m ρ c j y).symm)))
  iexact H

/-- The row blocks of the result join to the result. -/
theorem out_join : (bigSep Finset.univ fun j : Dev nD => own c (oBlk j) (outBlk m ρ c j)) ⊢ whole c cc0_stg2_0 (outAt m ρ c) :=
  (bigSep_mono fun j _ => own_out m ρ c j).trans
    (Entails.of_eq (Ring.pointsTo_sub_blocks (ℓ := (c : Thread nD τ).loc cc0_stg2_0) (fun j : Dev nD => (oBlk j).view.set) (sets_disj orow_set row_disj)
      Finset.univ (sets_cover orow_set row_cover) (outAt m ρ c)).symm)

/-! ## Around the ring from one device -/

theorem nx_injective : Function.Injective (nx c) := by revert c; decide
theorem pv_injective : Function.Injective (pv c) := by revert c; decide
theorem erase_nx : Finset.univ.erase c = Finset.univ.map ⟨nx c, nx_injective c⟩ := by revert c; decide
theorem erase_pv : Finset.univ.erase c = Finset.univ.map ⟨pv c, pv_injective c⟩ := by revert c; decide

omit [FloatOps F] in
/-- Over all devices: at `c`, and at the seven after it; -/
theorem around_nx (Φ : Dev nD → sProp 𝕄) : bigSep Finset.univ Φ = iprop(Φ c ∗ bigSep Finset.univ fun i : Fin 7 => Φ (nx c i)) := by
  rw [bigSep_univ_at Φ c, erase_nx, BI.bigSep_map]; rfl
omit [FloatOps F] in
/-- or at the seven before it. -/
theorem around_pv (Φ : Dev nD → sProp 𝕄) : bigSep Finset.univ Φ = iprop(Φ c ∗ bigSep Finset.univ fun i : Fin 7 => Φ (pv c i)) := by
  rw [bigSep_univ_at Φ c, erase_pv, BI.bigSep_map]; rfl

end Split

end Cert.Run

end
-- ==== Proof.Body.lean ====
/-
# The whole body

The parts, run one after another from what a device starts with to what it ends with.
-/
module

public import proofs.«01_k».proof.Proof.Split

@[expose] public section

set_option maxRecDepth 16384

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- One resource per transfer, one by one. -/
abbrev Seven (Φ : Fin 7 → sProp 𝕄) : sProp 𝕄 := iprop(Φ 0 ∗ Φ 1 ∗ Φ 2 ∗ Φ 3 ∗ Φ 4 ∗ Φ 5 ∗ Φ 6)

section Body
variable (K : Dev nD × CellIx → ℕ) (c : Dev nD)

/-- What device `c`'s body starts from. -/
def bodyIn : sProp 𝕄 :=
  iprop(ow c (owed c 0 0) ∗ whole c cc0_stg0_0 (sxAt m ρ c) ∗ whole c cc0_stg1_0 (swAt m ρ c)
    ∗ Seven (Sig (F := F) c) ∗ Seven (Snd (F := F) c) ∗ Seven (Rcv (F := F) c) ∗ Seven (fun i => atPos ER (sendCell c i) 0 ∅ 0)
    ∗ (whole c main_arg0 (xAt m c) ∗ (∃ f, whole (F := F) c cc0_scratch0 f) ∗ semVal ((c : Thread nD τ), .dma xS) 0)
    ∗ (∃ f, whole (F := F) c cc0_scratch1 f)
    ∗ (free (F := F) c 0 ∗ free (F := F) c 1 ∗ free (F := F) c 2)
    ∗ wPts m c c ∗ Seven (fun i => wPts m c (nx c i))
    ∗ cred (tallyAt (barCell c) () 7) ∗ atPos ER (barCell c) 0 ∅ 0 ∗ any (F := F) c (oBlk c))

/-- What it ends with. -/
def bodyOut : sProp 𝕄 :=
  iprop(ow c 0 ∗ whole c cc0_stg0_0 (sxAt m ρ c) ∗ whole c cc0_stg1_0 (swAt m ρ c)
    ∗ (whole c main_arg0 (xAt m c) ∗ whole c cc0_scratch0 (xAt m c) ∗ semVal ((c : Thread nD τ), .dma xS) 0)
    ∗ hPts m c
    ∗ (free (F := F) c 0 ∗ free (F := F) c 1 ∗ free (F := F) c 2)
    ∗ wPts m c c ∗ Seven (fun i => wPts m c (nx c i))
    ∗ semVal (barCell c) 0 ∗ own c (oBlk c) (outBlk m ρ c c) ∗ Seven (Got m ρ c) ∗ Seven (Don (F := F) c))

/-- A program that runs one and then another. -/
theorem step_bind {α β : Type} {Q : β → sProp (MT nD τ sig Unit (Elt F) ℕ UU ℕ)} (p : Prog (TpuEff nD τ sig (Elt F) Λ₀ .tc) α)
    (k : α → Prog (TpuEff nD τ sig (Elt F) Λ₀ .tc) β) : WP c p (fun a => WP c (k a) Q) ⊢ WP c (p >>= k) Q := by
  show _ ⊢ wp _ _ _ (p >>= k) Q
  rw [wp_bind]

set_option maxHeartbeats 1000000 in
/-- The body, from what it starts from to what it ends with. -/
theorem sound_body (Kt : PUnit → sProp 𝕄) :
    iprop(ctx m ρ K ∗ bodyIn m ρ c)
      ⊢ iprop((bodyOut m ρ c -∗ Kt ⟨⟩) -∗ WP c (cc0_body (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8) Kt) := by
  rw [cc0_body_eq_skeleton]; unfold cc0_body_skel
  simp only [Prog.lift, Prog.bind_op, Prog.bind_ret, Prog.pure_eq_ret]
  unfold bodyIn bodyOut
  iintro ⟨⟨#HR, #Hlev⟩, HO, Hs0, Hs1, ⟨HG0, HG1, HG2, HG3, HG4, HG5, HG6⟩, ⟨HS0, HS1, HS2, HS3, HS4, HS5, HS6⟩, ⟨HV0, HV1, HV2, HV3, HV4, HV5, HV6⟩, ⟨HA0, HA1, HA2, HA3, HA4, HA5, HA6⟩, ⟨Hx, Hb, Hzx⟩, ⟨%f, Hh⟩, ⟨H0, H1, H2⟩, HWc, ⟨HW0, HW1, HW2, HW3, HW4, HW5, HW6⟩, HcB, HaB, Hqc⟩ Hk
  iapply (step_bind c)
  rw [k0_part17_eq_skeleton]; unfold k0_part17_skel
  simp only [Prog.lift, Prog.bind_op, Prog.bind_ret, Prog.pure_eq_ret]
  iapply (step_bind c)
  iapply (part1 m ρ K c ) $$ [HO Hs0 Hs1 HG0 HG1 HG2 HG3]
  · isplitr
    · isplitr; · iexact HR
      iexact Hlev
    isplitl [HO]; · iexact HO
    isplitl [Hs0]; · iexact Hs0
    isplitl [Hs1]; · iexact Hs1
    isplitl [HG0]; · iexact HG0
    isplitl [HG1]; · iexact HG1
    isplitl [HG2]; · iexact HG2
    iexact HG3
  iintro ⟨HO, Hs0, Hs1⟩
  try dsimp only
  iapply (step_bind c)
  iapply (part2 m ρ K c _ _ _) $$ [HO HG4 HG5 HG6 Hx Hb Hzx H0 HW0 H1 HW1]
  · isplitr
    · isplitr; · iexact HR
      iexact Hlev
    isplitl [HO]; · iexact HO
    isplitl [HG4]; · iexact HG4
    isplitl [HG5]; · iexact HG5
    isplitl [HG6]; · iexact HG6
    isplitl [Hx]; · iexact Hx
    isplitl [Hb]; · iexact Hb
    isplitl [Hzx]; · iexact Hzx
    isplitl [H0]; · iexact H0
    isplitl [HW0]; · iexact HW0
    isplitl [H1]; · iexact H1
    iexact HW1
  iintro ⟨HO, Hb, Hx, Hzx, H0, H1⟩
  try dsimp only
  iapply (step_bind c)
  iapply (part3 m ρ K c _ f) $$ [HO Hb Hh H2 HW2 H0]
  · isplitr
    · isplitr; · iexact HR
      iexact Hlev
    isplitl [HO]; · iexact HO
    isplitl [Hb]; · iexact Hb
    isplitl [Hh]; · iexact Hh
    isplitl [H2]; · iexact H2
    isplitl [HW2]; · iexact HW2
    iexact H0
  iintro ⟨HO, Hb, Hh, H2, H0, HW0⟩
  try dsimp only
  iapply (step_bind c)
  iapply (part4 m ρ K c _ _) $$ [HO HS0 HcB HaB H0 HW3]
  · isplitr
    · isplitr; · iexact HR
      iexact Hlev
    isplitl [HO]; · iexact HO
    isplitl [HS0]; · iexact HS0
    isplitl [HcB]; · iexact HcB
    isplitl [HaB]; · iexact HaB
    isplitl [H0]; · iexact H0
    iexact HW3
  iintro ⟨HO, HzB, ⟨HL1, HL2, HL3, HL4, HL5, HL6⟩, HC0, H0⟩
  try dsimp only
  iapply (step_bind c)
  iapply (part5 m ρ K c _ _) $$ [HO Hh H1 HS1 HL1]
  · isplitr
    · isplitr; · iexact HR
      iexact Hlev
    isplitl [HO]; · iexact HO
    isplitl [Hh]; · iexact Hh
    isplitl [H1]; · iexact H1
    isplitl [HS1]; · iexact HS1
    iexact HL1
  iintro ⟨HO, Hh, H1, HW1, HC1⟩
  try dsimp only
  iapply (step_bind c)
  iapply (part6 m ρ K c _ _) $$ [HO Hh H1 HW4 H2 HS2 HL2]
  · isplitr
    · isplitr; · iexact HR
      iexact Hlev
    isplitl [HO]; · iexact HO
    isplitl [Hh]; · iexact Hh
    isplitl [H1]; · iexact H1
    isplitl [HW4]; · iexact HW4
    isplitl [H2]; · iexact H2
    isplitl [HS2]; · iexact HS2
    iexact HL2
  iintro ⟨HO, Hh, H1, H2, HW2, HC2⟩
  try dsimp only
  icases HS3 with ⟨HS3, Ha3, Hb3⟩
  iapply (step_bind c)
  iapply (part7 m ρ K c _ _) $$ [HO Hh H2 HW5 H0 HS3]
  · isplitr
    · isplitr; · iexact HR
      iexact Hlev
    isplitl [HO]; · iexact HO
    isplitl [Hh]; · iexact Hh
    isplitl [H2]; · iexact H2
    isplitl [HW5]; · iexact HW5
    isplitl [H0]; · iexact H0
    iexact HS3
  iintro ⟨HO, Hh, H2, H0, HW3, HS3⟩
  try dsimp only
  iapply (step_bind c)
  iapply (part8 m ρ K c _ _) $$ [HO Hh HS3 HL3 Ha3 Hb3 H0 HW6 H1]
  · isplitr
    · isplitr; · iexact HR
      iexact Hlev
    isplitl [HO]; · iexact HO
    isplitl [Hh]; · iexact Hh
    isplitl [HS3]; · iexact HS3
    isplitl [HL3]; · iexact HL3
    isplitl [Ha3]; · iexact Ha3
    isplitl [Hb3]; · iexact Hb3
    isplitl [H0]; · iexact H0
    isplitl [HW6]; · iexact HW6
    iexact H1
  iintro ⟨HO, Hh, HC3, H0, H1, HW4⟩
  try dsimp only
  iapply (step_bind c)
  iapply (part9 m ρ K c _ _) $$ [HO HS4 HL4 H1 HWc]
  · isplitr
    · isplitr; · iexact HR
      iexact Hlev
    isplitl [HO]; · iexact HO
    isplitl [HS4]; · iexact HS4
    isplitl [HL4]; · iexact HL4
    isplitl [H1]; · iexact H1
    iexact HWc
  iintro ⟨HO, HC4, H1⟩
  try dsimp only
  iapply (step_bind c)
  iapply (part10 m ρ K c _ _) $$ [HO Hh H2 HS5 HL5 H0]
  · isplitr
    · isplitr; · iexact HR
      iexact Hlev
    isplitl [HO]; · iexact HO
    isplitl [Hh]; · iexact Hh
    isplitl [H2]; · iexact H2
    isplitl [HS5]; · iexact HS5
    isplitl [HL5]; · iexact HL5
    iexact H0
  iintro ⟨HO, Hh, H2, HW5, HC5, H0⟩
  try dsimp only
  iapply (step_bind c)
  iapply (part11 m ρ K c _ _) $$ [HO Hh H0 HS6 HL6 H1]
  · isplitr
    · isplitr; · iexact HR
      iexact Hlev
    isplitl [HO]; · iexact HO
    isplitl [Hh]; · iexact Hh
    isplitl [H0]; · iexact H0
    isplitl [HS6]; · iexact HS6
    isplitl [HL6]; · iexact HL6
    iexact H1
  iintro ⟨HO, Hh, H0, HW6, HC6, H1, HWc⟩
  try dsimp only
  ihave HO := (Entails.of_eq (congrArg (ow (F := F) c) (owed_done c))) $$ HO
  iapply (step_bind c)
  iapply (part12 m ρ K c _) $$ [HO Hqc HV0]
  · isplitr
    · isplitr; · iexact HR
      iexact Hlev
    isplitl [HO]; · iexact HO
    isplitl [Hqc]; · iexact Hqc
    iexact HV0
  iintro ⟨HO, Hqc, HR0⟩
  try dsimp only
  iapply (step_bind c)
  iapply (part13 m ρ K c _ _) $$ [HO HV1 HV2]
  · isplitr
    · isplitr; · iexact HR
      iexact Hlev
    isplitl [HO]; · iexact HO
    isplitl [HV1]; · iexact HV1
    iexact HV2
  iintro ⟨HO, HR1, HR2⟩
  try dsimp only
  icases HV4 with ⟨Hv4, Hp4, Hq4⟩
  iapply (step_bind c)
  iapply (part14 m ρ K c _ _ _) $$ [HO HV3 Hv4 Hp4]
  · isplitr
    · isplitr; · iexact HR
      iexact Hlev
    isplitl [HO]; · iexact HO
    isplitl [HV3]; · iexact HV3
    isplitl [Hv4]; · iexact Hv4
    iexact Hp4
  iintro ⟨HO, HR3, Hz4, Hr4⟩
  try dsimp only
  iapply (step_bind c)
  iapply (part15 m ρ K c _ _) $$ [HO Hr4 Hq4 HV5]
  · isplitr
    · isplitr; · iexact HR
      iexact Hlev
    isplitl [HO]; · iexact HO
    isplitl [Hr4]; · iexact Hr4
    isplitl [Hq4]; · iexact Hq4
    iexact HV5
  iintro ⟨HO, Hr4, Hq4, HR5⟩
  try dsimp only
  ihave HX0 := (show iprop(Crd (F := F) c 0 ∗ atPos ER (sendCell c 0) 0 ∅ 0) ⊢ Wt (F := F) c 0 from Entails.refl _) $$ [HC0 HA0]
  · isplitl [HC0]; · iexact HC0
    iexact HA0
  ihave HX1 := (show iprop(Crd (F := F) c 1 ∗ atPos ER (sendCell c 1) 0 ∅ 0) ⊢ Wt (F := F) c 1 from Entails.refl _) $$ [HC1 HA1]
  · isplitl [HC1]; · iexact HC1
    iexact HA1
  ihave HX2 := (show iprop(Crd (F := F) c 2 ∗ atPos ER (sendCell c 2) 0 ∅ 0) ⊢ Wt (F := F) c 2 from Entails.refl _) $$ [HC2 HA2]
  · isplitl [HC2]; · iexact HC2
    iexact HA2
  ihave HX3 := (show iprop(Crd (F := F) c 3 ∗ atPos ER (sendCell c 3) 0 ∅ 0) ⊢ Wt (F := F) c 3 from Entails.refl _) $$ [HC3 HA3]
  · isplitl [HC3]; · iexact HC3
    iexact HA3
  ihave HX4 := (show iprop(Crd (F := F) c 4 ∗ atPos ER (sendCell c 4) 0 ∅ 0) ⊢ Wt (F := F) c 4 from Entails.refl _) $$ [HC4 HA4]
  · isplitl [HC4]; · iexact HC4
    iexact HA4
  ihave HX5 := (show iprop(Crd (F := F) c 5 ∗ atPos ER (sendCell c 5) 0 ∅ 0) ⊢ Wt (F := F) c 5 from Entails.refl _) $$ [HC5 HA5]
  · isplitl [HC5]; · iexact HC5
    iexact HA5
  ihave HX6 := (show iprop(Crd (F := F) c 6 ∗ atPos ER (sendCell c 6) 0 ∅ 0) ⊢ Wt (F := F) c 6 from Entails.refl _) $$ [HC6 HA6]
  · isplitl [HC6]; · iexact HC6
    iexact HA6
  iapply (step_bind c)
  iapply (part16 m ρ K c _) $$ [HO HV6 HX0 HX1 HX2]
  · isplitr
    · isplitr; · iexact HR
      iexact Hlev
    isplitl [HO]; · iexact HO
    isplitl [HV6]; · iexact HV6
    isplitl [HX0]; · iexact HX0
    isplitl [HX1]; · iexact HX1
    iexact HX2
  iintro ⟨HO, HR6, HD0, HD1, HD2⟩
  try dsimp only
  iapply (step_sendWait m ρ K c 3 rfl (N_of _)) $$ [HO HX3]
  · isplitr; · iexact HR
    isplitl [HO]; · iexact HO
    iexact HX3
  iintro ⟨HO, HD3⟩
  iapply (step_sendWait m ρ K c 4 rfl (N_of _)) $$ [HO HX4]
  · isplitr; · iexact HR
    isplitl [HO]; · iexact HO
    iexact HX4
  iintro ⟨HO, HD4⟩
  iapply (step_sendWait m ρ K c 5 rfl (N_of _)) $$ [HO HX5]
  · isplitr; · iexact HR
    isplitl [HO]; · iexact HO
    iexact HX5
  iintro ⟨HO, HD5⟩
  iapply (step_ret c c rfl)
  try dsimp only
  iapply (step_sendWait m ρ K c 6 rfl (N_of _)) $$ [HO HX6]
  · isplitr; · iexact HR
    isplitl [HO]; · iexact HO
    iexact HX6
  iintro ⟨HO, HD6⟩
  iapply (step_ret c ⟨⟩ rfl)
  iapply Hk
  isplitl [HO]
  · iexact HO
  isplitl [Hs0]
  · iexact Hs0
  isplitl [Hs1]
  · iexact Hs1
  isplitl [Hx Hb Hzx]
  · isplitl [Hx]
    · iexact Hx
    isplitl [Hb]
    · iexact Hb
    iexact Hzx
  isplitl [Hh]
  · iexact Hh
  isplitl [H0 H1 H2]
  · isplitl [H0]
    · iexact H0
    isplitl [H1]
    · iexact H1
    iexact H2
  isplitl [HWc]
  · iexact HWc
  isplitl [HW0 HW1 HW2 HW3 HW4 HW5 HW6]
  · isplitl [HW0]
    · iexact HW0
    isplitl [HW1]
    · iexact HW1
    isplitl [HW2]
    · iexact HW2
    isplitl [HW3]
    · iexact HW3
    isplitl [HW4]
    · iexact HW4
    isplitl [HW5]
    · iexact HW5
    iexact HW6
  isplitl [HzB]
  · iexact HzB
  isplitl [Hqc]
  · iexact Hqc
  isplitl [HR0 HR1 HR2 HR3 Hz4 Hr4 Hq4 HR5 HR6]
  · isplitl [HR0]
    · iexact HR0
    isplitl [HR1]
    · iexact HR1
    isplitl [HR2]
    · iexact HR2
    isplitl [HR3]
    · iexact HR3
    isplitl [Hz4 Hr4 Hq4]
    · isplitl [Hz4]
      · iexact Hz4
      isplitl [Hr4]
      · iexact Hr4
      iexact Hq4
    isplitl [HR5]
    · iexact HR5
    iexact HR6
  isplitl [HD0]
  · iexact HD0
  isplitl [HD1]
  · iexact HD1
  isplitl [HD2]
  · iexact HD2
  isplitl [HD3]
  · iexact HD3
  isplitl [HD4]
  · iexact HD4
  isplitl [HD5]
  · iexact HD5
  iexact HD6

end Body

end Cert.Run

end
-- ==== Proof.Ghost.lean ====
/-
# What the launch deals

The ring's ghost state is made for every cell of every device, the duty tokens go to the devices that pay them, and the
launch's credit comes to a device's barrier and receive cells.
-/
module

public import proofs.«01_k».proof.Proof.Body

@[expose] public section

set_option maxRecDepth 16384

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The load of `x`, the three loads of `w`, the seven sends and the seven receives. -/
def osem : Unit ⊕ (Fin 3 ⊕ (Fin 7 ⊕ Fin 7)) → SemLoc sig
  | .inl _ => .dma xS
  | .inr (.inl s) => .dma (wS s)
  | .inr (.inr (.inl i)) => .dma (sendS i)
  | .inr (.inr (.inr i)) => .dma (recvS i)

theorem ownSemFacts : Pipeline.OwnSemFacts cfg0.spec osem := by decide

/-- The load semaphores of device `c`, at zero. -/
def loads (c : Dev nD) : sProp 𝕄 :=
  iprop(semVal ((c : Thread nD τ), .dma xS) 0 ∗ bigSep Finset.univ fun s : Fin 3 => semVal ((c : Thread nD τ), .dma (wS s)) 0)

omit [FloatOps F] in
theorem bigSep_one (Φ : Unit → sProp 𝕄) : bigSep Finset.univ Φ = Φ () := bigSep_univ_eq_bigSepL [()] (by decide) (by decide) Φ
omit [FloatOps F] in
theorem bigSep_three (Φ : Fin 3 → sProp 𝕄) : bigSep Finset.univ Φ = iprop(Φ 0 ∗ Φ 1 ∗ Φ 2) :=
  bigSep_univ_eq_bigSepL ([0, 1, 2] : List (Fin 3)) (by decide) (by decide) Φ

omit [FloatOps F] in
/-- The kernel's own semaphores are the load semaphores, the send and the receive cells. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma xS) 0 ∗ (bigSep Finset.univ fun s : Fin 3 => semVal ((c : Thread nD τ), .dma (wS s)) 0)
      ∗ (bigSep Finset.univ fun i : Fin 7 => semVal (sendCell c i) 0) ∗ bigSep Finset.univ fun i : Fin 7 => semVal (recvCell c i) 0) := by
  unfold Pipeline.ownSems0
  rw [bigSep_univ_sum, bigSep_univ_sum, bigSep_univ_sum, bigSep_one]; rfl
omit [FloatOps F] in
/-- The barrier cell is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The ring's cells and tokens -/

omit [FloatOps F] in
theorem cells_split (c : Dev nD) (Φ : GSem nD τ sig → sProp 𝕄) : (bigSep Finset.univ fun k : CellIx => Φ (kcell (c, k)))
    = iprop(Φ (barCell c) ∗ (bigSep Finset.univ fun i : Fin 7 => Φ (sendCell c i)) ∗ bigSep Finset.univ fun i : Fin 7 => Φ (recvCell c i)) := by
  rw [bigSep_univ_sum, bigSep_univ_sum, bigSep_one]; rfl

theorem kcell_injective : Function.Injective (kcell : Dev nD × CellIx → GSem nD τ sig) := by
  rintro ⟨c, k⟩ ⟨c', k'⟩ h
  have hd (a : Dev nD) (x : CellIx) : (kcell (a, x)).1.1 = a := by rcases x with _ | x | x <;> rfl
  have hs (a b : Dev nD) (x : CellIx) : (kcell (a, x)).2 = (kcell (b, x)).2 := by rcases x with _ | x | x <;> rfl
  have h1 : c = c' := by rw [← hd c k, ← hd c' k', h]
  subst h1
  have h2 : (kcell (0, k)).2 = (kcell (0, k')).2 := by rw [hs 0 c k, hs 0 c k', h]
  have key : ∀ a b : CellIx, (kcell (0, a)).2 = (kcell (0, b)).2 → a = b := by decide
  rw [key k k' h2]
def ringCells : Finset (GSem nD τ sig) := Finset.univ.map ⟨kcell, kcell_injective⟩

/-- The duties of one device's cells: the barrier's seven, one per send cell, one per receive cell. -/
abbrev TokIx : Type := Fin 7 ⊕ (Fin 7 ⊕ Fin 7)
abbrev tokOf (ck : Dev nD × TokIx) : GSem nD τ sig × ℕ × Fin 7 := match ck.2 with
  | .inl i => (barCell ck.1, 0, i)
  | .inr (.inl i) => (sendCell ck.1 i, 0, 0)
  | .inr (.inr i) => (recvCell ck.1 i, 0, 0)
theorem tokOf_injective : Function.Injective (tokOf : Dev nD × TokIx → GSem nD τ sig × ℕ × Fin 7) := by
  rintro ⟨c, k⟩ ⟨c', k'⟩ h
  have hd (a : Dev nD) (x : TokIx) : (tokOf (a, x)).1.1.1 = a := by rcases x with x | x | x <;> rfl
  have hs (a b : Dev nD) (x : TokIx) : ((tokOf (a, x)).1.2, (tokOf (a, x)).2.2) = ((tokOf (b, x)).1.2, (tokOf (b, x)).2.2) := by
    rcases x with x | x | x <;> rfl
  have h1 : c = c' := by rw [← hd c k, ← hd c' k', h]
  subst h1
  have h2 : ((tokOf (0, k)).1.2, (tokOf (0, k)).2.2) = ((tokOf (0, k')).1.2, (tokOf (0, k')).2.2) := by rw [hs 0 c k, hs 0 c k', h]
  have key : ∀ a b : TokIx, ((tokOf (0, a)).1.2, (tokOf (0, a)).2.2) = ((tokOf (0, b)).1.2, (tokOf (0, b)).2.2) → a = b := by decide
  rw [key k k' h2]
def ringToks : Finset (GSem nD τ sig × ℕ × Fin 7) := Finset.univ.map ⟨tokOf, tokOf_injective⟩

def u₀ : UU :=
  (initOf (Pipeline.cells cfgs cellOf_inj) (Pipeline.launchToks cfgs cellOf_inj), (initOf ringCells ringToks, 1))

/-- The tokens of the duties of device `c`'s own cells. -/
def toks (c : Dev nD) : sProp 𝕄 :=
  iprop((bigSep Finset.univ fun i : Fin 7 => dutyTok ER (barCell c) 0 i) ∗ (bigSep Finset.univ fun i : Fin 7 => dutyTok ER (sendCell c i) 0 0)
    ∗ bigSep Finset.univ fun i : Fin 7 => dutyTok ER (recvCell c i) 0 0)
/-- The tokens of the duties device `c` pays. -/
def payToks (c : Dev nD) : sProp 𝕄 :=
  iprop((bigSep Finset.univ fun i : Fin 7 => dutyTok ER (barCell (nx c i)) 0 i) ∗ (bigSep Finset.univ fun i : Fin 7 => dutyTok ER (sendCell c i) 0 0)
    ∗ bigSep Finset.univ fun i : Fin 7 => dutyTok ER (recvCell (nx c i) i) 0 0)
/-- What stays with device `c`: its positions and the tokens of the duties it pays. -/
def lin (c : Dev nD) : sProp 𝕄 :=
  iprop((atPos ER (barCell c) 0 ∅ 0 ∗ (bigSep Finset.univ fun i : Fin 7 => atPos ER (sendCell c i) 0 ∅ 0)
    ∗ bigSep Finset.univ fun i : Fin 7 => atPos ER (recvCell c i) 0 ∅ 0) ∗ payToks c)

/-- What the launch element deals device `c`; -/
def G (c : Dev nD) : sProp 𝕄 :=
  iprop((bigSep Finset.univ fun k : CellIx => roundState ER (ringRd m ρ) (kcell (c, k)) 0)
    ∗ (bigSep Finset.univ fun k : CellIx => iprop(atPos ER (kcell (c, k)) 0 ∅ 0 ∗ reached ER (kcell (c, k)) 0)) ∗ toks c)
/-- what the global step makes of it. -/
def G' (c : Dev nD) : sProp 𝕄 := iprop((∃ K, records m ρ K ∗ lin c) ∗ loads c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Device `c`'s ring cells get their invariants; the load semaphores stay as they are. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c ∗ loads c) := by
  unfold G
  rw [ownSems0_eq, unscopedSems0_eq]
  iintro ⟨⟨Hx, Hw, HS, HV⟩, HB, Hst, Hat, Htok⟩
  ihave Hv := (Entails.of_eq (cells_split c fun g => (semVal g 0 : sProp 𝕄)).symm) $$ [HS HV HB]
  · isplitl [HB]; · iexact HB
    isplitl [HS] <;> iassumption
  imod (show iprop((bigSep Finset.univ fun k : CellIx => semVal (kcell (c, k)) 0) ∗ bigSep Finset.univ fun k : CellIx => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  unfold loads
  isplitl [Hx] <;> iassumption

/-- A device and a transfer, and the device `i + 1` after with the same transfer. -/
def dealing : Dev nD × Fin 7 ≃ Dev nD × Fin 7 :=
  ⟨fun p => (nx p.1 p.2, p.2), fun p => (pv p.1 p.2, p.2), fun p => Prod.ext (pv_nx p.1 p.2) rfl, fun p => Prod.ext (nx_pv p.1 p.2) rfl⟩

omit [FloatOps F] in
/-- A resource per device and transfer, dealt to the device `i + 1` before. -/
theorem deal (Φ : Dev nD → Fin 7 → sProp 𝕄) : (bigSep Finset.univ fun c : Dev nD => bigSep Finset.univ fun i : Fin 7 => Φ c i)
    = bigSep Finset.univ fun c : Dev nD => bigSep Finset.univ fun i : Fin 7 => Φ (nx c i) i := by
  have h1 := bigSep_univ_prod (fun p : Dev nD × Fin 7 => Φ p.1 p.2)
  have h2 := bigSep_univ_equiv dealing (fun p : Dev nD × Fin 7 => Φ p.1 p.2)
  have h3 := bigSep_univ_prod (fun p : Dev nD × Fin 7 => Φ (nx p.1 p.2) p.2)
  exact (h1.symm.trans h2).trans h3

theorem toks_around : (bigSep Finset.univ fun c : Dev nD => (toks c : sProp 𝕄)) ⊢ bigSep Finset.univ fun c : Dev nD => payToks c := by
  unfold toks payToks
  rw [bigSep_sep', bigSep_sep', bigSep_sep', bigSep_sep', deal (fun c i => (dutyTok ER (barCell c) 0 i : sProp 𝕄)),
    deal (fun c i => (dutyTok ER (recvCell c i) 0 0 : sProp 𝕄))]

theorem ghost_intro (K : Dev nD × CellIx → ℕ) (c : Dev nD) : iprop(records m ρ K ∗ lin c ∗ loads c) ⊢ G' m ρ c := by
  unfold G'
  iintro ⟨HR, Hl, Ho⟩
  isplitl [HR Hl]
  · iexists K; isplitl [HR] <;> iassumption
  iexact Ho

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c ∗ loads c) : sProp 𝕄)
      ⊢ bigSep Finset.univ (G' m ρ) := by
  rw [bigSep_sep', bigSep_sep', bigSep_sep', ← bigSep_univ_prod (fun ck : Dev nD × CellIx => iprop(∃ κ : ℕ, cellInv ER (ringRd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok, Hld⟩
  ihave HK := (BI.bigSep_exists_pi Finset.univ (fun (ck : Dev nD × CellIx) (κ : ℕ) => (cellInv ER (ringRd m ρ) κ (kcell ck) : sProp 𝕄))) $$ HI
  icases HK with ⟨%K, #HI⟩
  ihave Htk := (toks_around (F := F)) $$ Htok
  iapply (BI.bigSep_with_persistent (R := records m ρ K) (Φ := fun c => iprop(lin c ∗ loads c)) fun c _ => ghost_intro m ρ K c)
  isplitr
  · unfold records; isplitl; · iexact HI
    iexact HR
  · rw [bigSep_sep']
    isplitr [Hld]
    · iapply ((Entails.of_eq (bigSep_sep' Finset.univ (fun c : Dev nD => bigSep Finset.univ fun k : CellIx => (atPos ER (kcell (c, k)) 0 ∅ 0 : sProp 𝕄)) payToks).symm).trans
        (bigSep_mono fun c _ => show _ ⊢ lin c from Entails.of_eq (by unfold lin; rw [cells_split c fun g => (atPos ER g 0 ∅ 0 : sProp 𝕄)])))
      isplitl [Hat]; · iexact Hat
      iexact Htk
    iexact Hld

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_nx {d c : Dev nD} {i : Fin 7} : (barCell c = barCell (nx d i)) ↔ d = pv c i := by
  constructor
  · intro h
    have h1 : c = nx d i := congrArg (fun g : GSem nD τ sig => g.1.1) h
    rw [h1, pv_nx]
  · rintro rfl; rw [nx_pv]
theorem recv_nx {d c : Dev nD} {i j : Fin 7} : (recvCell c i = recvCell (nx d j) j) ↔ d = pv c i ∧ j = i := by
  constructor
  · intro h
    have h1 : c = nx d j := congrArg (fun g : GSem nD τ sig => g.1.1) h
    have h2 : SemLoc.dma (recvS i) = SemLoc.dma (recvS j) := congrArg Prod.snd h
    have h3 : roleOf (.dma (recvS i)) = roleOf (.dma (recvS j)) := congrArg roleOf h2
    rw [role_recv, role_recv] at h3
    cases h3
    exact ⟨by rw [h1, pv_nx], rfl⟩
  · rintro ⟨rfl, rfl⟩; rw [nx_pv]
theorem bar_ne_recv {a b : Dev nD} {i : Fin 7} : barCell a ≠ recvCell b i := fun h => by
  have := congrArg (fun g : GSem nD τ sig => roleOf g.2) h
  simp only [role_bar, role_recv] at this
  cases this

theorem all_filter : Finset.univ.filter (fun i : Fin 7 => 0 ≤ i.val) = Finset.univ := by decide

theorem owed_at (d : Dev nD) (g : GSem nD τ sig) : O₀ d g () = (∑ i : Fin 7, if g = recvCell (nx d i) i then N else 0)
    + ∑ i : Fin 7, if g = barCell (nx d i) then 1 else 0 := by
  unfold O₀ owed
  rw [all_filter, Pi.add_apply, Finsupp.add_apply, Finset.sum_apply, Finsupp.finset_sum_apply, Finset.sum_apply, Finsupp.finset_sum_apply]
  congr 1 <;> refine Finset.sum_congr rfl fun i _ => ?_ <;> rw [tallyAt_apply] <;> simp only [and_true]

theorem owed_bar (d c : Dev nD) : O₀ d (barCell c) () = ∑ i : Fin 7, if d = pv c i then 1 else 0 := by
  rw [owed_at, Finset.sum_eq_zero (fun i _ => if_neg bar_ne_recv), Nat.zero_add]
  exact Finset.sum_congr rfl fun i _ => if_congr bar_nx rfl rfl
theorem owed_recv (d c : Dev nD) (i : Fin 7) : O₀ d (recvCell c i) () = if d = pv c i then N else 0 := by
  rw [owed_at, Finset.sum_eq_zero (s := Finset.univ) (f := fun j : Fin 7 => if recvCell c i = barCell (nx d j) then 1 else 0) (fun j _ => if_neg (fun h => bar_ne_recv h.symm)),
    Nat.add_zero, Finset.sum_congr rfl fun j _ => if_congr recv_nx rfl rfl]
  by_cases h : d = pv c i
  · simp only [h, true_and, Finset.sum_ite_eq' Finset.univ i (fun _ => N), Finset.mem_univ, if_true]
  · simp only [h, false_and, if_false, Finset.sum_const_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => (Finset.sum_ite_eq' Finset.univ (pv c i) fun _ => 1).trans (if_pos (Finset.mem_univ _)),
    Finset.sum_const, Finset.card_univ, Fintype.card_fin, smul_eq_mul]
theorem launch_recv (c : Dev nD) (i : Fin 7) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (pv c i) fun _ => N,
    if_pos (Finset.mem_univ _)]

theorem recvS_injective : Function.Injective (fun i : Fin 7 => (SemLoc.dma (recvS i) : SemLoc sig)) := by decide
theorem recvS_erase : Finset.univ.map ⟨fun i : Fin 7 => (SemLoc.dma (recvS i) : SemLoc sig), recvS_injective⟩ ⊆ Finset.univ.erase (SemLoc.reg barS) := by
  intro x hx
  obtain ⟨i, -, rfl⟩ := Finset.mem_map.mp hx
  exact Finset.mem_erase.mpr ⟨by simp, Finset.mem_univ _⟩

omit [FloatOps F] in
theorem creds (c : Dev nD) :
    (Pipeline.launchCred O₀ c : sProp 𝕄)
      ⊢ iprop(cred (tallyAt (barCell c) () 7) ∗ bigSep Finset.univ fun i : Fin 7 => cred (tallyAt (recvCell c i) () N)) := by
  unfold Pipeline.launchCred
  rw [bigSep_univ_at _ (SemLoc.reg barS), launch_bar]
  refine sep_mono_right ?_
  rw [bigSep_sdiff_split recvS_erase, bigSep_map]
  refine sep_elim_left.trans (Entails.of_eq (bigSep_congr fun i _ => ?_))
  rw [← launch_recv]; rfl

end Cert.Run

end
-- ==== Proof.Launch.lean ====
/-
# The launch

The pipeline's proof data, the body met by the pipeline's obligation, and the run of the whole program.
-/
module

public import proofs.«01_k».proof.Proof.Ghost
public import Idealize.ShloMosaic.Lib.Pipeline.CollectiveSegs

@[expose] public section

set_option maxRecDepth 16384

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` is given at the launch. -/
def start (c : Dev nD) : sProp 𝕄 :=
  iprop((∃ K, records m ρ K ∗ lin c) ∗ loads c ∗ levAts L lv ∗ cred (tallyAt (barCell c) () 7)
    ∗ (bigSep Finset.univ fun i : Fin 7 => cred (tallyAt (recvCell c i) () N)) ∗ whole c main_arg0 (xAt m c) ∗ whole c main_arg1 (wAt m c))
/-- The five buffers the kernel works in, each at some contents. -/
def scr (c : Dev nD) : sProp 𝕄 :=
  iprop((∃ f, whole (F := F) c cc0_scratch0 f) ∗ (∃ f, whole (F := F) c cc0_scratch1 f) ∗ (∃ f, whole (F := F) c cc0_scratch2 f)
    ∗ (∃ f, whole (F := F) c cc0_scratch3 f) ∗ ∃ f, whole (F := F) c cc0_scratch4 f)
def Φ₀ (c : Dev nD) : sProp 𝕄 := iprop(start m ρ c ∗ scr (F := F) c)
/-- After the body: the buffers, the arguments as they were, every semaphore at zero. -/
def Φ₁ (c : Dev nD) : sProp 𝕄 :=
  iprop(scr (F := F) c ∗ (whole c main_arg0 (xAt m c) ∗ whole c main_arg1 (wAt m c)) ∗ loads c
    ∗ (bigSep Finset.univ fun i : Fin 7 => semVal (sendCell c i) 0) ∗ (bigSep Finset.univ fun i : Fin 7 => semVal (recvCell c i) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sxAt m ρ c
    | ⟨1, _⟩ => swAt m ρ c
    | ⟨2, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ whole c b f) := by
  unfold owns whole; simp only [Memref.view_whole, View.read_whole, View.set_whole]

/-! ## The body -/

theorem seven_of (Φ : Fin 7 → sProp 𝕄) : bigSep Finset.univ Φ = Seven Φ := bigSep_seven Φ

section Body
variable (c : Dev nD)

/-- The three weight slots with their semaphores. -/
theorem free_split : iprop((∃ f, whole (F := F) c cc0_scratch2 f) ∗ bigSep Finset.univ fun s : Fin 3 => semVal ((c : Thread nD τ), .dma (wS s)) 0)
    ⊢ (iprop(free (F := F) c 0 ∗ free (F := F) c 1 ∗ free (F := F) c 2) : sProp 𝕄) := by
  rw [← bigSep_three (fun s => free (F := F) c s)]
  unfold free
  rw [bigSep_sep']
  exact sep_mono_left (wbuf_split c)
theorem free_join : (iprop(free (F := F) c 0 ∗ free (F := F) c 1 ∗ free (F := F) c 2) : sProp 𝕄)
    ⊢ iprop((∃ f, whole (F := F) c cc0_scratch2 f) ∗ bigSep Finset.univ fun s : Fin 3 => semVal ((c : Thread nD τ), .dma (wS s)) 0) := by
  rw [← bigSep_three (fun s => free (F := F) c s)]
  unfold free
  rw [bigSep_sep']
  exact sep_mono_left (wbuf_join c)

/-- For the seven signals: their duties and the rows of the receive buffer; its own rows are left over. -/
theorem sig_split : iprop((bigSep Finset.univ fun i : Fin 7 => dutyTok ER (barCell (nx c i)) 0 i) ∗ ∃ f, whole (F := F) c cc0_scratch4 f)
    ⊢ (iprop(any (F := F) c (rBlk c) ∗ Seven (Sig (F := F) c)) : sProp 𝕄) := by
  rw [← seven_of (Sig (F := F) c), bigSep_sep']
  have h := (recv_split (F := F) c).trans (Entails.of_eq (around_nx c fun j => any (F := F) c (rBlk j)))
  iintro ⟨Ht, H⟩
  ihave H' := h $$ H
  icases H' with ⟨H1, H2⟩
  isplitl [H1]; · iexact H1
  isplitl [Ht] <;> iassumption

/-- For the seven transfers: the communication slots and the duties. -/
theorem snd_split : iprop((bigSep Finset.univ fun i : Fin 7 => dutyTok ER (sendCell c i) 0 0)
      ∗ (bigSep Finset.univ fun i : Fin 7 => dutyTok ER (recvCell (nx c i) i) 0 0) ∗ ∃ f, whole (F := F) c cc0_scratch3 f)
    ⊢ (Seven (Snd (F := F) c) : sProp 𝕄) := by
  rw [← seven_of (Snd (F := F) c), bigSep_sep', bigSep_sep']
  iintro ⟨Hs, Hr, H⟩
  ihave H' := (comm_split (F := F) c) $$ H
  isplitl [H']; · iexact H'
  isplitl [Hs] <;> iassumption

/-- For the seven receives: their credit, the positions and the rows of the result; the rows of its own block are left over. -/
theorem rcv_split : iprop((bigSep Finset.univ fun i : Fin 7 => cred (tallyAt (recvCell c i) () N))
      ∗ (bigSep Finset.univ fun i : Fin 7 => atPos ER (recvCell c i) 0 ∅ 0) ∗ ∃ f, whole (F := F) c cc0_stg2_0 f)
    ⊢ (iprop(any (F := F) c (oBlk c) ∗ Seven (Rcv (F := F) c)) : sProp 𝕄) := by
  rw [← seven_of (Rcv (F := F) c), bigSep_sep', bigSep_sep']
  have h := (out_split (F := F) c).trans (Entails.of_eq (around_pv c fun j => any (F := F) c (oBlk j)))
  iintro ⟨Hc, Ha, H⟩
  ihave H' := h $$ H
  icases H' with ⟨H1, H2⟩
  isplitl [H1]; · iexact H1
  isplitl [Hc]; · iexact Hc
  isplitl [Ha] <;> iassumption

theorem w_split : (whole c main_arg1 (wAt m c) : sProp 𝕄) = iprop(wPts m c c ∗ Seven (fun i => wPts m c (nx c i))) := by
  rw [w_blocks, around_nx c, seven_of]

/-- What the seven receives leave: their counters, the receive buffer and the result. -/
theorem got_join : iprop(any (F := F) c (rBlk c) ∗ own c (oBlk c) (outBlk m ρ c c) ∗ Seven (Got m ρ c))
    ⊢ iprop((bigSep Finset.univ fun i : Fin 7 => semVal (recvCell c i) 0) ∗ (∃ f, whole (F := F) c cc0_scratch4 f) ∗ whole c cc0_stg2_0 (outAt m ρ c)) := by
  rw [← seven_of (Got m ρ c), bigSep_sep', bigSep_sep']
  have h1 := (Entails.of_eq (around_pv c fun j => any (F := F) c (rBlk j)).symm).trans (recv_join (F := F) c)
  have h2 := (Entails.of_eq (around_pv c fun j => own c (oBlk j) (outBlk m ρ c j)).symm).trans (out_join m ρ c)
  have h3 : (bigSep Finset.univ fun i : Fin 7 => own c (rBlk (pv c i)) (sent m ρ (pv c i) c)) ⊢ bigSep Finset.univ fun i : Fin 7 => any (F := F) c (rBlk (pv c i)) :=
    bigSep_mono fun i _ => own_any c _ _
  iintro ⟨Hr, Ho, Hz, Hrs, Hos⟩
  ihave Hrs' := h3 $$ Hrs
  isplitl [Hz]; · iexact Hz
  isplitl [Hr Hrs']
  · iapply h1
    isplitl [Hr] <;> iassumption
  · iapply h2
    isplitl [Ho] <;> iassumption

/-- What the seven send waits leave: their counters and the communication buffer. -/
theorem don_join : (Seven (Don (F := F) c) : sProp 𝕄)
    ⊢ iprop((bigSep Finset.univ fun i : Fin 7 => semVal (sendCell c i) 0) ∗ ∃ f, whole (F := F) c cc0_scratch3 f) := by
  rw [← seven_of (Don (F := F) c), bigSep_sep']
  exact sep_mono_right (comm_join (F := F) c)

/-- What the pipeline hands the body; -/
def handed : sProp 𝕄 :=
  iprop(Φ₀ m ρ c ∗ ow c (owed c 0 0) ∗ whole c cc0_stg0_0 (sxAt m ρ c) ∗ whole c cc0_stg1_0 (swAt m ρ c) ∗ ∃ f, whole (F := F) c cc0_stg2_0 f)
/-- what the body hands back. -/
def back : sProp 𝕄 :=
  iprop(Φ₁ m c ∗ ow c 0 ∗ whole c cc0_stg0_0 (sxAt m ρ c) ∗ whole c cc0_stg1_0 (swAt m ρ c) ∗ whole c cc0_stg2_0 (outAt m ρ c))

/-- What is handed is what the body starts from, and the rows of the receive buffer the body does not touch. -/
theorem handed_in : handed m ρ c ⊢ iprop((∃ K, ctx m ρ K) ∗ any (F := F) c (rBlk c) ∗ bodyIn m ρ c) := by
  unfold handed Φ₀ start scr lin payToks loads bodyIn
  iintro ⟨⟨⟨⟨%K, HR, ⟨HaB, HaS, HaV⟩, HtB, HtS, HtV⟩, ⟨Hzx, Hzw⟩, Hlev, HcB, HcV, Hx, Hw⟩, Hb0, Hb1, Hb2, Hb3, Hb4⟩, HO, Hs0, Hs1, Hs2⟩
  ihave Hfree := (free_split (F := F) c) $$ [Hb2 Hzw]
  · isplitl [Hb2] <;> iassumption
  ihave Hsig := (sig_split (F := F) c) $$ [HtB Hb4]
  · isplitl [HtB] <;> iassumption
  icases Hsig with ⟨Hown, Hsig⟩
  ihave Hsnd := (snd_split (F := F) c) $$ [HtS HtV Hb3]
  · isplitl [HtS]; · iexact HtS
    isplitl [HtV] <;> iassumption
  ihave Hrcv := (rcv_split (F := F) c) $$ [HcV HaV Hs2]
  · isplitl [HcV]; · iexact HcV
    isplitl [HaV] <;> iassumption
  icases Hrcv with ⟨Hob, Hrcv⟩
  ihave HaS' := (Entails.of_eq (seven_of fun i => (atPos ER (sendCell c i) 0 ∅ 0 : sProp 𝕄))) $$ HaS
  ihave Hw' := (Entails.of_eq (w_split m c)) $$ Hw
  icases Hw' with ⟨Hwc, Hwn⟩
  isplitl [HR Hlev]
  · iexists K; isplitl [HR] <;> iassumption
  isplitl [Hown]; · iexact Hown
  isplitl [HO]; · iexact HO
  isplitl [Hs0]; · iexact Hs0
  isplitl [Hs1]; · iexact Hs1
  isplitl [Hsig]; · iexact Hsig
  isplitl [Hsnd]; · iexact Hsnd
  isplitl [Hrcv]; · iexact Hrcv
  isplitl [HaS']; · iexact HaS'
  isplitl [Hx Hb0 Hzx]
  · isplitl [Hx]; · iexact Hx
    isplitl [Hb0] <;> iassumption
  isplitl [Hb1]; · iexact Hb1
  isplitl [Hfree]; · iexact Hfree
  isplitl [Hwc]; · iexact Hwc
  isplitl [Hwn]; · iexact Hwn
  isplitl [HcB]; · iexact HcB
  isplitl [HaB]; · iexact HaB
  iexact Hob

/-- What the body ends with is what is handed back. -/
theorem out_back : iprop(any (F := F) c (rBlk c) ∗ bodyOut m ρ c) ⊢ back m ρ c := by
  unfold back Φ₁ scr loads bodyOut
  iintro ⟨Hown, HO, Hs0, Hs1, ⟨Hx, Hb0, Hzx⟩, Hh, Hfree, Hwc, Hwn, HzB, Hob, Hgot, Hdon⟩
  ihave Hf := (free_join (F := F) c) $$ Hfree
  icases Hf with ⟨Hb2, Hzw⟩
  ihave Hg := (got_join m ρ c) $$ [Hown Hob Hgot]
  · isplitl [Hown]; · iexact Hown
    isplitl [Hob] <;> iassumption
  icases Hg with ⟨HzV, Hb4, Hs2⟩
  ihave Hd := (don_join (F := F) c) $$ Hdon
  icases Hd with ⟨HzS, Hb3⟩
  ihave Hw := (Entails.of_eq (w_split m c).symm) $$ [Hwc Hwn]
  · isplitl [Hwc] <;> iassumption
  isplitr [HO Hs0 Hs1 Hs2]
  · isplitl [Hb0 Hh Hb2 Hb3 Hb4]
    · isplitl [Hb0]; · iexists _; iexact Hb0
      isplitl [Hh]; · iexists _; iexact Hh
      isplitl [Hb2]; · iexact Hb2
      isplitl [Hb3] <;> iassumption
    isplitl [Hx Hw]
    · isplitl [Hx] <;> iassumption
    isplitl [Hzx Hzw]
    · isplitl [Hzx] <;> iassumption
    isplitl [HzS]; · iexact HzS
    isplitl [HzV] <;> iassumption
  isplitl [HO]; · iexact HO
  isplitl [Hs0]; · iexact Hs0
  isplitl [Hs1] <;> iassumption

end Body

theorem bigSep_W (Φ : Fin cfg0.W → sProp 𝕄) : bigSep Finset.univ Φ = iprop(Φ (0 : Fin 3) ∗ Φ (1 : Fin 3) ∗ Φ (2 : Fin 3)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ whole c b f)

def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ m c ∗ (dats m ρ 0 c).owesAt () t₀.succ
    ∗ stg c cc0_stg0_0 (sxAt m ρ c) ∗ stg c cc0_stg1_0 (swAt m ρ c) ∗ stg c cc0_stg2_0 (outAt m ρ c))

theorem pre_handed (c : Dev nD) : bodyPre' m ρ c ⊢ handed m ρ c := by
  unfold bodyPre' handed ow stg Dat.owesAt Pipeline.owesWithin
  have e0 (d) : (dats m ρ 0 c).before (0 : Fin 3) t₀ d = sxAt m ρ c := by unfold Dat.before; rw [if_pos (fetch0_0 t₀)]; rfl
  have e1 (d) : (dats m ρ 0 c).before (1 : Fin 3) t₀ d = swAt m ρ c := by unfold Dat.before; rw [if_pos (fetch0_1 t₀)]; rfl
  simp only [e0, e1]
  iintro ⟨HΦ, ⟨%W, -, HO⟩, ⟨%d0, %f0, %h0, H0⟩, ⟨%d1, %f1, %h1, H1⟩, ⟨%d2, %f2, -, H2⟩⟩
  subst h0; subst h1
  isplitl [HΦ]; · iexact HΦ
  isplitl [HO]; · iexists W; iexact HO
  isplitl [H0]; · iexact H0
  isplitl [H1]; · iexact H1
  iexists f2; iexact H2

theorem back_post (c : Dev nD) : back m ρ c ⊢ bodyPost m ρ c := by
  unfold bodyPost back ow stg Dat.owesAt Pipeline.owesWithin
  rw [show (dats m ρ 0 c).owed t₀.succ = 0 from rfl]
  iintro ⟨HΦ, ⟨%W, HO⟩, H0, H1, H2⟩
  isplitl [HΦ]; · iexact HΦ
  isplitl [HO]
  · iexists W; isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

/-- The body meets the pipeline's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ WP c (cc0_body (F := F) xA (Memref.isWhole_whole _) wA (Memref.isWhole_whole _) sxM (Memref.isWhole_whole _) swM (Memref.isWhole_whole _) oM (Memref.isWhole_whole _) xM (Memref.isWhole_whole _) hM (Memref.isWhole_whole _) wM (Memref.isWhole_whole _) cM (Memref.isWhole_whole _) rM (Memref.isWhole_whole _) cc0_scratch5 cc0_scratch6 cc0_scratch7 cc0_scratch8) (fun _ => bodyPost m ρ c)
  iintro H
  ihave H1 := ((pre_handed m ρ c).trans (handed_in m ρ c)) $$ H
  icases H1 with ⟨⟨%K, #Hctx⟩, Hown, Hin⟩
  iapply (sound_body m ρ K c fun _ => bodyPost m ρ c) $$ [Hin]
  · isplitr; · iexact Hctx
    iexact Hin
  iintro Hout
  iapply ((out_back m ρ c).trans (back_post m ρ c))
  isplitl [Hown] <;> iassumption

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none]
  have hu := unscopedRest0_eq (Ix := Unit) (Val := Elt F) (Name := ℕ) (U := UU) (Lvl := ℕ) c (fun b => m ((c : Thread nD τ).loc b))
  iintro ⟨Hu, Hlev, Hcr, -, HG⟩
  ihave Hu' := (Entails.of_eq hu) $$ Hu
  icases Hu' with ⟨Hx, Hw⟩
  ihave Hc := (creds (F := F) c) $$ Hcr
  icases Hc with ⟨HB, HV⟩
  imodintro
  unfold start G'
  icases HG with ⟨HG, Hl⟩
  isplitl
  · isplitl [HG]; · iexact HG
    isplitl [Hl]; · iexact Hl
    isplitl [Hlev]; · iexact Hlev
    isplitl [HB]; · iexact HB
    isplitl [HV]; · iexact HV
    isplitl [Hx]; · iexact Hx
    iexact Hw
  · iempintro

theorem scr_eq (c : Dev nD) : (Pipeline.scopedRest (Ix := Unit) (Name := ℕ) (U := UU) (Lvl := ℕ) (Val := Elt F) cfg0.spec c : sProp 𝕄) = scr (F := F) c :=
  scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs] <;> iassumption

/-- What device `c` keeps after the kernel: its barrier counter and the two arguments the kernel copied from itself. -/
def kept (c : Dev nD) : sProp 𝕄 := iprop(unscopedSems0 c ∗ whole c main_arg0 (xAt m c) ∗ whole c main_arg1 (wAt m c))

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scr_eq, ownSems0_eq]
  unfold Φ₁ kept loads
  rw [unscopedSems0_eq]
  iintro ⟨Hr, ⟨Hx, Hw⟩, ⟨Hzx, Hzw⟩, HzS, HzV, HzB⟩
  isplitl [Hx Hw HzB]
  · isplitl [HzB]; · iexact HzB
    isplitl [Hx] <;> iassumption
  isplitr [Hr]
  · isplitl [Hzx]; · iexact Hzx
    isplitl [Hzw]; · iexact Hzw
    isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_zero c _ (by fin_cases w <;> fin_cases s <;> rfl) 0 0
    · show _ ⊢ MayWait _ _ () 0
      rw [MayWait_zero]; iintro -; iempintro

/-- A whole buffer held at `f` is `f` in the memory. -/
theorem whole_read (c : Dev nD) (s' : Phys nD τ sig (Elt F)) :
    iprop((whole c main_arg0 (xAt m c) ∗ whole c main_arg1 (wAt m c)) ∗ SI s')
      ⊢ (iprop(⌜s'.mem.mem ((c : Thread nD τ).loc main_arg0) = xAt m c ∧ s'.mem.mem ((c : Thread nD τ).loc main_arg1) = wAt m c⌝ ∗ SI s') : sProp 𝕄) := by
  have hb := bigSep_eq_bigSepL_of_eq [main_arg0, main_arg1] (show ({main_arg0, main_arg1} : Finset (Ref sig .tc)) = _ by decide) (by decide)
    (fun b => ((c : Thread nD τ).loc b ↦{fullShare} m ((c : Thread nD τ).loc b) : sProp 𝕄))
  have hb' : iprop(whole c main_arg0 (xAt m c) ∗ whole c main_arg1 (wAt m c)) ⊢ _ := Entails.of_eq hb.symm
  have h := pointsTo_read_all (Ix := Unit) (Name := ℕ) (U := UU) (Lvl := ℕ) ({main_arg0, main_arg1} : Finset (Ref sig .tc))
    (fun b => (c : Thread nD τ).loc b) (fun b => m ((c : Thread nD τ).loc b)) s'
  iintro ⟨Hw, HSI⟩
  ihave H := h $$ [Hw HSI]
  · isplitl [Hw]
    · iapply hb'; iexact Hw
    iexact HSI
  icases H with ⟨%hr, HSI⟩
  isplitr
  · ipureintro; exact ⟨hr main_arg0 (by decide), hr main_arg1 (by decide)⟩
  iexact HSI

/-! ## The run -/

def finalA (c : Dev nD) (w : Fin cfg0.W) : Buf (Elt F) ((cfg0.win w).arr.view.loc (c : Thread nD τ)) := (dats m ρ 0 c).arrAt w cfg0.N

/-- Every weakly fair execution of the program from any memory with zero counters ends, with each window's array at the
    computed contents, the two other arguments as they were, and every semaphore counter at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX' := (own_pair_emb embR (initOf ringCells ringToks) (1 : Counters)) $$ HX
      icases HX' with ⟨HX, -⟩
      ihave HX := (show (BI.own (((Emb.inl : Emb UB (UB × Counters)).trans (embR : Emb (UB × Counters) (MT nD τ sig Unit (Elt F) ℕ UU ℕ))) (initOf ringCells ringToks)) : sProp (MT nD τ sig Unit (Elt F) ℕ UU ℕ))
        ⊢ BI.own (ER (initOf ringCells ringToks)) from .rfl) $$ HX
      imod (fund_ring m ρ) $$ HX with HG
      imodintro
      isplitl [HP] <;> iassumption)
    (hglob := glob m ρ)
    (hA := fun _ _ => rfl) (hpf := fun _ k => k.elim0)
    (X := start m ρ) (Y := kept m) (Z := fun _ => iprop(emp))
    (hX := start_intro m ρ) (hin := phi0_intro m ρ) (hout := phi1_exit m ρ)
    (QY := fun c s => (s.mem ((c : Thread nD τ).loc main_arg0) = m ((c : Thread nD τ).loc main_arg0)
        ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold kept
      iintro ⟨⟨Hu, Hw⟩, -, HSI⟩
      ihave H := (whole_read m c s') $$ [Hw HSI]
      · isplitl [Hw] <;> iassumption
      icases H with ⟨%hr, HSI⟩
      imod (Pipeline.unscopedSems0_read (X := unscopedSems0 c) (c := c) fupd_intro s') $$ [Hu HSI] with ⟨%hz, HSI⟩
      · isplitl [Hu] <;> iassumption
      imodintro
      isplitr
      · ipureintro; exact ⟨hr, hz⟩
      iexact HSI)
    (hQ := fun _ h hs => ⟨fun c => ⟨fun w => (h c).1 w, (h c).2.2.1⟩, sem_eq_zero hs fun c => (h c).2.2.2⟩)

end Cert.Run

end
-- ==== Proof.Ref.lean ====
/-
# The reference

Its run on the one device, for any float values, and its result at an index at the extended reals.
-/
module

public import proofs.«01_k».proof.Defs
public import proofs.«01_k».proof.Proof.Gen.ReferenceIdeal
public import Idealize.ShloMosaic.Lib.StableHlo.Run
public import Idealize.ShloMosaic.Lib.StackMember
public import Idealize.ShloMosaic.Lib.Pipeline.Value

@[expose] public section

set_option maxRecDepth 16384

noncomputable section

namespace Cert.Whole

open Cert.ReferenceIdeal Cert.ReferenceIdeal.Gen
open Idealize.ShloMosaic Idealize.ShloMosaic.TcCoe Idealize.ShloMosaic.StableHlo Idealize.SL.Sem
open Idealize.ShloMosaic.ValueIdx
open scoped BigOperators

variable {F : FTy → Type} [FloatOps F]

/-- The product, times the product of the scales in every place. -/
abbrev result (x : FVec F S4096x4096 .f32) (w : FVec F S4096x2048 .f32) (p q : FVec F S1 .f32) : FVec F S4096x2048 .f32 :=
  mulf (Host.dotGeneral dot_S4096x4096_S4096x2048_S4096x2048_1_0_0_1_n_n none x w)
    (broadcastInDim S4096x2048 ![0, 1] bcast_S1x1_S4096x2048_0_1 (broadcastInDim S1x1 ![1] bcast_S1_S1x1_1 (mulf p q)))

/-- The five operations. -/
abbrev line : List (HloOp τ sig (Elt F)) :=
  [ binary main_arg0 main_arg1 main_v0 (fun l r => Host.dotGeneral dot_S4096x4096_S4096x2048_S4096x2048_1_0_0_1_n_n none l r),
    binary main_arg2 main_arg3 main_v1 mulf,
    unary main_v1 main_v2 (broadcastInDim S1x1 ![1] bcast_S1_S1x1_1),
    unary main_v2 main_v3 (broadcastInDim S4096x2048 ![0, 1] bcast_S1x1_S4096x2048_0_1),
    binary main_v0 main_v3 main_v4 mulf ]

theorem main_line (c : Dev nD) : main (F := F) c = seq line := rfl

theorem after_v4 (V : Valuation τ sig (Elt F)) : after line V (main_v4 : DevRef τ sig)
    = result (V (main_arg0 : DevRef τ sig)) (V (main_arg1 : DevRef τ sig)) (V (main_arg2 : DevRef τ sig)) (V (main_arg3 : DevRef τ sig)) := by
  after_results
theorem after_arg0 (V : Valuation τ sig (Elt F)) : after line V (main_arg0 : DevRef τ sig) = V (main_arg0 : DevRef τ sig) := by
  after_results
theorem after_arg1 (V : Valuation τ sig (Elt F)) : after line V (main_arg1 : DevRef τ sig) = V (main_arg1 : DevRef τ sig) := by
  after_results
theorem after_arg2 (V : Valuation τ sig (Elt F)) : after line V (main_arg2 : DevRef τ sig) = V (main_arg2 : DevRef τ sig) := by
  after_results
theorem after_arg3 (V : Valuation τ sig (Elt F)) : after line V (main_arg3 : DevRef τ sig) = V (main_arg3 : DevRef τ sig) := by
  after_results

theorem line_sub : (line : List (HloOp τ sig (Elt F))).Forall fun op => op.bufs ⊆ tcRefs τ sig :=
  ⟨binary_bufs_sub .., binary_bufs_sub .., unary_bufs_sub .., unary_bufs_sub .., binary_bufs_sub ..⟩

/-- Every run of the reference ends with its result in place and its arguments as they were. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v4)
          = result (m ((c.tc : Thread nD τ).loc main_arg0)) (m ((c.tc : Thread nD τ).loc main_arg1))
              (m ((c.tc : Thread nD τ).loc main_arg2)) (m ((c.tc : Thread nD τ).loc main_arg3)))
        ∧ (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
        ∧ r.2.sem = fun _ => 0 :=
  (θ_run defs _ _).mono (fun r h => ⟨fun c => (h c main_v4).trans (after_v4 _),
      fun c => ⟨(h c main_arg0).trans (after_arg0 _), (h c main_arg1).trans (after_arg1 _),
        (h c main_arg2).trans (after_arg2 _), (h c main_arg3).trans (after_arg3 _)⟩,
      sem_eq_zero_of_no_sems (by decide) r.2⟩)
    (run_seq (by decide) (by decide) defs main (fun _ => line) main_line (fun _ => line_sub) m ρ)

/-- The one index of a scale. -/
abbrev one : S1.Idx := fun a => ⟨0, (by decide : ∀ a, 0 < S1.size a) a⟩
theorem one_eq (i : S1.Idx) : i = one := by
  funext a
  have h : a = 0 := Fin.ext (by have := a.isLt; change a.val < 1 at this; show a.val = 0; omega)
  subst h
  exact Fin.ext (by have := (i 0).isLt; change (i 0).val < 1 at this; show (i 0).val = 0; omega)

/-- The result at row `r` and column `l`. -/
theorem result_apply (x : FVec Ideal S4096x4096 .f32) (w : FVec Ideal S4096x2048 .f32) (p q : FVec Ideal S1 .f32)
    (r : Fin 4096) (l : Fin 2048) :
    result x w p q (ix2 r l) = (∑ k : Fin 4096, x (ix2 r k) * w (ix2 k l)) * ((p one : EReal) * q one) := by
  have hd : Host.dotGeneral dot_S4096x4096_S4096x2048_S4096x2048_1_0_0_1_n_n none x w (ix2 r l)
      = ∑ k : Fin 4096, x (ix2 r k) * w (ix2 k l) := StackMember.dotGeneral_plain_apply none x w r l
  have hb : broadcastInDim S4096x2048 ![0, 1] bcast_S1x1_S4096x2048_0_1 (broadcastInDim S1x1 ![1] bcast_S1_S1x1_1 (mulf p q)) (ix2 r l)
      = (p one : EReal) * q one := by
    unfold broadcastInDim
    exact congrArg (mulf p q) (one_eq _)
  show (_ : EReal) * _ = _
  rw [hd, hb]

end Cert.Whole

end
-- ==== Proof.Value.lean ====
/-
# The value of the run at the extended reals

Row block `j` of device `c`'s result is the product of device `j`'s rows and column block `c` of the weights, times the
product of the scales: block `c` along the columns of the reference's result.
-/
module

public import proofs.«01_k».proof.Proof.Launch
public import proofs.«01_k».proof.Proof.Ref
public import Idealize.ShloMosaic.Lib.MatmulPlain
public import Idealize.ShloMosaic.Lib.Pipeline.ValueKit.Geometry

@[expose] public section

set_option maxRecDepth 16384

noncomputable section

namespace Cert.Run

open Cert.KernelIdeal Cert.KernelIdeal.Gen
open Idealize.ShloMosaic Idealize.ShloMosaic.TcCoe Idealize.SL.Sem
open Idealize.ShloMosaic.ValueIdx
open scoped BigOperators

section Any
variable {F : FTy → Type} [FloatOps F]
variable (m : (ℓ : Loc nD τ sig) → Buf (Elt F) ℓ) (ρ : Dev nD → PrngReg)

/-- The result array ends as the staged result. -/
theorem finalA_out (c : Dev nD) : finalA m ρ c 2 = outAt m ρ c :=
  (dats m ρ 0 c).arrAt_eq_of_after_last 2 t₀ (by decide +kernel) (outAt m ρ c) fun j => rfl
/-- The scales are left as they were. -/
theorem finalA_sx (c : Dev nD) : finalA m ρ c 0 = m ((c : Thread nD τ).loc main_arg2) := (dats (F := F) m ρ 0 c).arrAt_in (0 : Fin _) rfl _
theorem finalA_sw (c : Dev nD) : finalA m ρ c 1 = m ((c : Thread nD τ).loc main_arg3) := (dats (F := F) m ρ 0 c).arrAt_in (1 : Fin _) rfl _

/-- The run, buffer by buffer. -/
theorem run_read : θ_run defs (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨((h.1 c).1 2).trans (finalA_out m ρ c), (h.1 c).2.1, (h.1 c).2.2,
    ((h.1 c).1 0).trans (finalA_sx m ρ c), ((h.1 c).1 1).trans (finalA_sw m ρ c)⟩, h.2⟩) (run_main m ρ)

end Any

/-- A product block at row `r` and column `l`. -/
theorem mm_apply (sc : Ideal .f32) (w : FVec Ideal S4096x256 .f32) (h : FVec Ideal S512x4096 .fp8e4m3) (r : Fin 512) (l : Fin 256) :
    mm (F := Ideal) sc w h (ix2 r l) = ((∑ k : Fin 4096, (h (ix2 r k) : EReal) * w (ix2 k l)) * sc : EReal) := by
  have hz : (constant (F := Ideal) S512x256 .f32 0x00000000#32) (ix2 r l) = (0 : EReal) := Ideal.ofBits_zero_f32
  have e := Ideal.matmul_plain_apply (M := 512) (K := 4096) (N := 256) none h (truncf .fp8e5m2 w bitsLt_fp8e5m2_f32)
    (constant (F := Ideal) S512x256 .f32 0x00000000#32) r l
  rw [hz, zero_add] at e
  exact congrArg (fun a : EReal => a * sc) e

variable (m : (ℓ : Loc nD τ sig) → Buf (Elt Ideal) ℓ) (ρ : Dev nD → PrngReg)

theorem hAt_apply (c : Dev nD) (i : S512x4096.Idx) : (hAt m c i : EReal) = xAt m c i := by
  show (xAt m c (Shape.reshapeEquiv _ i) : EReal) = _
  rw [Shape.reshapeEquiv_self]

/-- Row block `j` of device `c`'s result: narrowing and widening are the identity here. -/
theorem outBlk_apply (c j : Dev nD) (r : Fin 512) (l : Fin 256) : (outBlk m ρ c j (ix2 r l) : EReal)
    = (∑ k : Fin 4096, (xAt m j (ix2 r k) : EReal) * wCol m j c (ix2 k l)) * scAt m ρ j := by
  have e : (outBlk m ρ c j (ix2 r l) : EReal) = mm (F := Ideal) (scAt m ρ j) (wCol m j c) (hAt m j) (ix2 r l) := by
    unfold outBlk
    split
    · next h => subst h; rfl
    · rfl
  rw [e, mm_apply]
  exact congrArg (fun a : EReal => a * scAt m ρ j) (Finset.sum_congr rfl fun k _ => congrArg (fun a : EReal => a * wCol m j c (ix2 k l)) (hAt_apply m j _))

/-- The product of the scales. -/
theorem scAt_eq (c : Dev nD) (p q : FVec Ideal S1 .f32) (hp : m ((c : Thread nD τ).loc main_arg2) = p)
    (hq : m ((c : Thread nD τ).loc main_arg3) = q) : (scAt m ρ c : EReal) = (p Whole.one : EReal) * q Whole.one := by
  have h1 (i : S1.Idx) : sxAt m ρ c i = p Whole.one :=
    (congrArg (m ((c : Thread nD τ).loc main_arg2)) (Whole.one_eq _)).trans (congrFun hp _)
  have h2 (i : S1.Idx) : swAt m ρ c i = q Whole.one :=
    (congrArg (m ((c : Thread nD τ).loc main_arg3)) (Whole.one_eq _)).trans (congrFun hq _)
  exact congrArg₂ (fun a b : EReal => a * b) (h1 _) (h2 _)

/-- Device `c`'s result is block `c`, along the columns, of the reference's result of the whole arrays. -/
theorem outAt_block (X : FVec Ideal ⟨2, ![4096, 4096]⟩ .f32) (W : FVec Ideal ⟨2, ![4096, 2048]⟩ .f32) (p q : FVec Ideal S1 .f32)
    (hx : ∀ c : Dev nD, m ((c : Thread nD τ).loc main_arg0) = Layout.block ⟨2, ![512, 4096]⟩ ⟨2, ![4096, 4096]⟩ 0 8 c X)
    (hw : ∀ c : Dev nD, m ((c : Thread nD τ).loc main_arg1) = W)
    (hp : ∀ c : Dev nD, m ((c : Thread nD τ).loc main_arg2) = p) (hq : ∀ c : Dev nD, m ((c : Thread nD τ).loc main_arg3) = q)
    (c : Dev nD) :
    outAt m ρ c = Layout.block ⟨2, ![4096, 256]⟩ ⟨2, ![4096, 2048]⟩ 1 8 c (Whole.result X W p q) := by
  funext i
  obtain ⟨j, hj⟩ := row_mem i
  obtain ⟨y, rfl⟩ : ∃ y, (row j).emb y = i := by
    rw [← row_set] at hj
    obtain ⟨y, -, h⟩ := Finset.mem_map.mp hj
    exact ⟨y, h⟩
  obtain ⟨r, l, rfl⟩ : ∃ (r : Fin 512) (l : Fin 256), y = ix2 r l := ⟨y 0, y 1, eq_ix2 y⟩
  refine (outAt_emb m ρ c j (ix2 r l)).trans ?_
  refine (outBlk_apply m ρ c j r l).trans ?_
  have hr : j.val * 512 + r.val < 4096 := by have := j.isLt; have := r.isLt; change j.val < 8 at *; omega
  have hl : c.val * 256 + l.val < 2048 := by have := c.isLt; have := l.isLt; change c.val < 8 at *; omega
  have ei (h : Layout.Tiles ⟨2, ![4096, 256]⟩ ⟨2, ![4096, 2048]⟩ 1 8) :
      h.idx c ((row j).emb (ix2 r l)) = ix2 ⟨j.val * 512 + r.val, hr⟩ ⟨c.val * 256 + l.val, hl⟩ := by
    funext a; apply Fin.ext
    match a with
    | ⟨0, _⟩ => show 512 * j.val + 1 * r.val = j.val * 512 + r.val; omega
    | ⟨1, _⟩ => show c.val * 256 + (0 + 1 * l.val) = c.val * 256 + l.val; omega
  rw [Layout.block_apply, ei, Whole.result_apply, scAt_eq m ρ j p q (hp j) (hq j)]
  refine congrArg (fun a : EReal => a * ((p Whole.one : EReal) * q Whole.one)) (Finset.sum_congr rfl fun k _ => ?_)
  refine congrArg₂ (fun a b : EReal => a * b) ?_ ?_
  · unfold xAt
    rw [hx, Layout.block_apply]
    refine congrArg X (funext fun a => Fin.ext ?_)
    match a with
    | ⟨0, _⟩ => rfl
    | ⟨1, _⟩ => rfl
  · show wAt m j ((wBlk c).view.emb (ix2 k l)) = _
    unfold wAt
    rw [hw]
    refine congrArg W (funext fun a => Fin.ext ?_)
    match a with
    | ⟨0, _⟩ => show 0 + 1 * k.val = k.val; omega
    | ⟨1, _⟩ => show 256 * c.val + 1 * l.val = c.val * 256 + l.val; omega

end Cert.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Ref
public import proofs.«01_k».proof.Proof.Value

@[expose] public section

set_option maxRecDepth 16384

namespace Cert.Proof

open Idealize.ShloMosaic Idealize.SL.Sem

open Cert.KernelIdeal in
/-- The idealized kernel's text runs over any float values, with its arguments unchanged. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (Cert.Run.run_read m ρ)

variable {F : FTy → Type} [FloatOps F]

/-- The two programs have the same kernel, -/
theorem same_body : @Cert.Kernel.defs₀ F _ Cert.Kernel.Gen.facts = @Cert.KernelIdeal.defs₀ F _ Cert.KernelIdeal.Gen.facts := by
  refine congrArg Defs.onTc (funext fun ℓ => funext fun a => ?_)
  match ℓ, a with
  | ⟨0, _⟩, (t, s) => rfl
  | ⟨_ + 1, h⟩, _ => exact absurd h (Nat.not_lt.2 (Nat.le_add_left _ _))
/-- the same definitions, -/
theorem same_defs : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) same_body

theorem run_of_eq {nD : Nat} {τ : Topo} {sig : RefSig} {Λ : Labels} {D D' : Defs nD τ sig (Elt F) Λ} (h : D = D')
    {p : (t : Thread nD τ) → Prog (TpuEff nD τ sig (Elt F) Λ t.2) PUnit} {s : MemSt nD τ sig (Elt F)}
    {Q : PUnit × MemSt nD τ sig (Elt F) → Prop}
    (hr : θ_run D p s Q) : θ_run D' p s Q := h ▸ hr

/-- so the kernel runs. -/
theorem frame_kernel : Cert.quiescent_Kernel := fun m ρ _ => run_of_eq same_defs.symm (frame_any (F := Bits) m ρ)

/-- The idealized kernel runs; -/
theorem frame_ideal : Cert.quiescent_KernelIdeal := fun m ρ _ => frame_any (F := Ideal) m ρ

/-- so does the reference. -/
theorem frame_reference : Cert.quiescent_ReferenceIdeal := fun m ρ _ =>
  (θ_run Cert.ReferenceIdeal.defs _ _).mono (fun _ h => h.2) (Cert.Whole.run (F := Ideal) m ρ)

/-- Each device's result is its block of the reference's. -/
theorem value : Cert.algebraic_KernelIdeal_ReferenceIdeal := by
  intro m ρ m' ρ' _ hagree
  refine ⟨_, ?_, (θ_run Cert.ReferenceIdeal.defs _ _).mono (fun _ h => ⟨h.1 0, h.2.1 0⟩) (Cert.Whole.run (F := Ideal) m' ρ')⟩
  exact (θ_run Cert.KernelIdeal.defs _ _).mono
    (fun _ h c => ⟨(h.1 c).1.trans (Cert.Run.outAt_block m ρ _ _ _ _ (fun c => (hagree c).1) (fun c => (hagree c).2.1)
      (fun c => (hagree c).2.2.1) (fun c => (hagree c).2.2.2) c), (h.1 c).2⟩)
    (Cert.Run.run_read (F := Ideal) m ρ)

theorem claim : Cert.Claim :=
  ⟨Cert.Kernel.Gen.facts, Cert.KernelIdeal.Gen.facts, Cert.ReferenceIdeal.Gen.facts,
    frame_kernel, frame_ideal, frame_reference, trivial, value⟩

end Cert.Proof
